-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S2048x4 : Shape := ⟨2, ![2048, 4]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048x4 : S_.BroadcastsInDim S2048x4 (![] : Fin 0 → Fin S2048x4.rank)
  reducesTo_S2048x4_S_d0_1 : S2048x4.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg11 : FVec F S1024x1024 .f32) (main_arg12 : FVec F S1024x1024 .f32) (main_v46 : IVec S_ 1) (main_v50 : IVec S_ 1) : IVec S_ 1 :=
  let main_v51 : IVec S_ 1 := andi main_v46 main_v50
  let main_v52 : FVec F S1024x1024 .f32 := Host.absf main_arg11
  let main_cst_19 : FVec F S_ .f32 := constant S_ .f32 0x7F800000#32
  let main_v53 : FVec F S1024x1024 .f32 := broadcastInDim S1024x1024 ![] bcast_S_S1024x1024 main_cst_19
  let main_v54 : IVec S1024x1024 1 := cmpf .olt main_v52 main_v53
  let main_c_20 : IVec S_ 1 := constantI S_ 1 1#1
  let main_v55 : IVec S_ 1 := (fun x v => Host.reduce IntOp.andi x v reducesTo_S1024x1024_S_d0_1 h_S_) main_v54 main_c_20
  let main_v56 : IVec S_ 1 := andi main_v51 main_v55
  let main_v57 : FVec F S1024x1024 .f32 := Host.absf main_arg12
  let main_cst_21 : FVec F S_ .f32 := constant S_ .f32 0x7F800000#32
  let main_v58 : FVec F S1024x1024 .f32 := broadcastInDim S1024x1024 ![] bcast_S_S1024x1024 main_cst_21
  let main_v59 : IVec S1024x1024 1 := cmpf .olt main_v57 main_v58
  let main_c_22 : IVec S_ 1 := constantI S_ 1 1#1
  let main_v60 : IVec S_ 1 := (fun x v => Host.reduce IntOp.andi x v reducesTo_S1024x1024_S_d0_1 h_S_) main_v59 main_c_22
  let main_v61 : IVec S_ 1 := andi main_v56 main_v60
  main_v61

def fn_part2 {F : FTy → Type} [FloatOps F] (main_arg8 : FVec F S2048x4 .f32) (main_arg9 : FVec F S2048 .f32) (main_arg10 : FVec F S1024x1024 .f32) (main_arg11 : FVec F S1024x1024 .f32) (main_arg12 : FVec F S1024x1024 .f32) (main_v31 : IVec S_ 1) (main_v32 : FVec F S1024 .f32) (main_v33 : FVec F S1024 .f32) : IVec S_ 1 :=
  let main_v34 : IVec S1024 1 := cmpf .olt main_v32 main_v33
  let main_c_12 : IVec S_ 1 := constantI S_ 1 1#1
  let main_v35 : IVec S_ 1 := (fun x v => Host.reduce IntOp.andi x v reducesTo_S1024_S_d0 h_S_) main_v34 main_c_12
  let main_v36 : IVec S_ 1 := andi main_v31 main_v35
  let main_v37 : FVec F S2048x4 .f32 := Host.absf main_arg8
  let main_cst_13 : FVec F S_ .f32 := constant S_ .f32 0x7F800000#32
  let main_v38 : FVec F S2048x4 .f32 := broadcastInDim S2048x4 ![] bcast_S_S2048x4 main_cst_13
  let main_v39 : IVec S2048x4 1 := cmpf .olt main_v37 main_v38
  let main_c_14 : IVec S_ 1 := constantI S_ 1 1#1
  let main_v40 : IVec S_ 1 := (fun x v => Host.reduce IntOp.andi x v reducesTo_S2048x4_S_d0_1 h_S_) main_v39 main_c_14
  let main_v41 : IVec S_ 1 := andi main_v36 main_v40
  let main_v42 : FVec F S2048 .f32 := Host.absf main_arg9
  let main_cst_15 : FVec F S_ .f32 := constant S_ .f32 0x7F800000#32
  let main_v43 : FVec F S2048 .f32 := broadcastInDim S2048 ![] bcast_S_S2048 main_cst_15
  let main_v44 : IVec S2048 1 := cmpf .olt main_v42 main_v43
  let main_c_16 : IVec S_ 1 := constantI S_ 1 1#1
  let main_v45 : IVec S_ 1 := (fun x v => Host.reduce IntOp.andi x v reducesTo_S2048_S_d0 h_S_) main_v44 main_c_16
  let main_v46 : IVec S_ 1 := andi main_v41 main_v45
  let main_v47 : FVec F S1024x1024 .f32 := Host.absf main_arg10
  let main_cst_17 : FVec F S_ .f32 := constant S_ .f32 0x7F800000#32
  let main_v48 : FVec F S1024x1024 .f32 := broadcastInDim S1024x1024 ![] bcast_S_S1024x1024 main_cst_17
  let main_v49 : IVec S1024x1024 1 := cmpf .olt main_v47 main_v48
  let main_c_18 : IVec S_ 1 := constantI S_ 1 1#1
  let main_v50 : IVec S_ 1 := (fun x v => Host.reduce IntOp.andi x v reducesTo_S1024x1024_S_d0_1 h_S_) main_v49 main_c_18
  fn_part3 (F := F) main_arg11 main_arg12 main_v46 main_v50

def fn_part1 {F : FTy → Type} [FloatOps F] (main_arg4 : FVec F S1024x2048 .f32) (main_arg5 : FVec F S2048 .f32) (main_arg6 : FVec F S2048x1024 .f32) (main_arg7 : FVec F S1024 .f32) (main_arg8 : FVec F S2048x4 .f32) (main_arg9 : FVec F S2048 .f32) (main_arg10 : FVec F S1024x1024 .f32) (main_arg11 : FVec F S1024x1024 .f32) (main_arg12 : FVec F S1024x1024 .f32) (main_v16 : IVec S_ 1) : IVec S_ 1 :=
  let main_v17 : FVec F S1024x2048 .f32 := Host.absf main_arg4
  let main_cst_5 : FVec F S_ .f32 := constant S_ .f32 0x7F800000#32
  let main_v18 : FVec F S1024x2048 .f32 := broadcastInDim S1024x2048 ![] bcast_S_S1024x2048 main_cst_5
  let main_v19 : IVec S1024x2048 1 := cmpf .olt main_v17 main_v18
  let main_c_6 : IVec S_ 1 := constantI S_ 1 1#1
  let main_v20 : IVec S_ 1 := (fun x v => Host.reduce IntOp.andi x v reducesTo_S1024x2048_S_d0_1 h_S_) main_v19 main_c_6
  let main_v21 : IVec S_ 1 := andi main_v16 main_v20
  let main_v22 : FVec F S2048 .f32 := Host.absf main_arg5
  let main_cst_7 : FVec F S_ .f32 := constant S_ .f32 0x7F800000#32
  let main_v23 : FVec F S2048 .f32 := broadcastInDim S2048 ![] bcast_S_S2048 main_cst_7
  let main_v24 : IVec S2048 1 := cmpf .olt main_v22 main_v23
  let main_c_8 : IVec S_ 1 := constantI S_ 1 1#1
  let main_v25 : IVec S_ 1 := (fun x v => Host.reduce IntOp.andi x v reducesTo_S2048_S_d0 h_S_) main_v24 main_c_8
  let main_v26 : IVec S_ 1 := andi main_v21 main_v25
  let main_v27 : FVec F S2048x1024 .f32 := Host.absf main_arg6
  let main_cst_9 : FVec F S_ .f32 := constant S_ .f32 0x7F800000#32
  let main_v28 : FVec F S2048x1024 .f32 := broadcastInDim S2048x1024 ![] bcast_S_S2048x1024 main_cst_9
  let main_v29 : IVec S2048x1024 1 := cmpf .olt main_v27 main_v28
  let main_c_10 : IVec S_ 1 := constantI S_ 1 1#1
  let main_v30 : IVec S_ 1 := (fun x v => Host.reduce IntOp.andi x v reducesTo_S2048x1024_S_d0_1 h_S_) main_v29 main_c_10
  let main_v31 : IVec S_ 1 := andi main_v26 main_v30
  let main_v32 : FVec F S1024 .f32 := Host.absf main_arg7
  let main_cst_11 : FVec F S_ .f32 := constant S_ .f32 0x7F800000#32
  let main_v33 : FVec F S1024 .f32 := broadcastInDim S1024 ![] bcast_S_S1024 main_cst_11
  fn_part2 (F := F) main_arg8 main_arg9 main_arg10 main_arg11 main_arg12 main_v31 main_v32 main_v33

def fn {F : FTy → Type} [FloatOps F] (main_arg0 : FVec F S4x2048x1024 .f32) (main_arg1 : FVec F S1024 .f32) (main_arg2 : FVec F S1024x2048 .f32) (main_arg3 : FVec F S2048 .f32) (main_arg4 : FVec F S1024x2048 .f32) (main_arg5 : FVec F S2048 .f32) (main_arg6 : FVec F S2048x1024 .f32) (main_arg7 : FVec F S1024 .f32) (main_arg8 : FVec F S2048x4 .f32) (main_arg9 : FVec F S2048 .f32) (main_arg10 : FVec F S1024x1024 .f32) (main_arg11 : FVec F S1024x1024 .f32) (main_arg12 : FVec F S1024x1024 .f32) (main_arg13 : FVec F S1024x1024 .f32) (main_arg14 : FVec F S_ .f32) : IVec S_ 1 :=
  let main_v0 : FVec F S_ .f32 := Host.absf main_arg14
  let main_cst : FVec F S_ .f32 := constant S_ .f32 0x7F800000#32
  let main_v1 : IVec S_ 1 := cmpf .olt main_v0 main_cst
  let main_v2 : FVec F S1024 .f32 := Host.absf main_arg1
  let main_cst_0 : FVec F S_ .f32 := constant S_ .f32 0x7F800000#32
  let main_v3 : FVec F S1024 .f32 := broadcastInDim S1024 ![] bcast_S_S1024 main_cst_0
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : IVec S_ 1 := andi main_v1 main_v5
  let main_v7 : FVec F S1024x2048 .f32 := Host.absf main_arg2
  let main_cst_1 : FVec F S_ .f32 := constant S_ .f32 0x7F800000#32
  let main_v8 : FVec F S1024x2048 .f32 := broadcastInDim S1024x2048 ![] bcast_S_S1024x2048 main_cst_1
  let main_v9 : IVec S1024x2048 1 := cmpf .olt main_v7 main_v8
  let main_c_2 : IVec S_ 1 := constantI S_ 1 1#1
  let main_v10 : IVec S_ 1 := (fun x v => Host.reduce IntOp.andi x v reducesTo_S1024x2048_S_d0_1 h_S_) main_v9 main_c_2
  let main_v11 : IVec S_ 1 := andi main_v6 main_v10
  let main_v12 : FVec F S2048 .f32 := Host.absf main_arg3
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_c_4 : IVec S_ 1 := constantI S_ 1 1#1
  let main_v15 : IVec S_ 1 := (fun x v => Host.reduce IntOp.andi x v reducesTo_S2048_S_d0 h_S_) main_v14 main_c_4
  let main_v16 : IVec S_ 1 := andi main_v11 main_v15
  fn_part1 (F := F) main_arg4 main_arg5 main_arg6 main_arg7 main_arg8 main_arg9 main_arg10 main_arg11 main_arg12 main_v16
-- ==== Kernel.lean ====
abbrev S4x2048x1024 : Shape := ⟨3, ![4, 2048, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S2048x4 : Shape := ⟨2, ![2048, 4]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1 : Shape := ⟨1, ![1]⟩
abbrev S1024x4096 : Shape := ⟨2, ![1024, 4096]⟩
abbrev S4096 : Shape := ⟨1, ![4096]⟩
abbrev S1x4096 : Shape := ⟨2, ![1, 4096]⟩
abbrev S1024x3072 : Shape := ⟨2, ![1024, 3072]⟩
abbrev S1x1024 : Shape := ⟨2, ![1, 1024]⟩
abbrev S4x2048 : Shape := ⟨2, ![4, 2048]⟩
abbrev S1x2048 : Shape := ⟨2, ![1, 2048]⟩
abbrev S2x256x1024 : Shape := ⟨3, ![2, 256, 1024]⟩
abbrev S2x1024x1024 : Shape := ⟨3, ![2, 1024, 1024]⟩
abbrev S2x264x2048 : Shape := ⟨3, ![2, 264, 2048]⟩
abbrev S2x8x2048 : Shape := ⟨3, ![2, 8, 2048]⟩
abbrev S1x256x1024 : Shape := ⟨3, ![1, 256, 1024]⟩
abbrev S256x1024 : Shape := ⟨2, ![256, 1024]⟩
abbrev S256x4096 : Shape := ⟨2, ![256, 4096]⟩
abbrev S256x2048 : Shape := ⟨2, ![256, 2048]⟩
abbrev S1x256x2048 : Shape := ⟨3, ![1, 256, 2048]⟩
abbrev S1x8x2048 : Shape := ⟨3, ![1, 8, 2048]⟩
abbrev S8x2048 : Shape := ⟨2, ![8, 2048]⟩
abbrev S1x3x2048 : Shape := ⟨3, ![1, 3, 2048]⟩
abbrev S3x2048 : Shape := ⟨2, ![3, 2048]⟩
abbrev S256x3072 : Shape := ⟨2, ![256, 3072]⟩
abbrev S1x1024x1024 : Shape := ⟨3, ![1, 1024, 1024]⟩

abbrev nBuf : Space → Nat
  | .hbm => 67
  | .vmem => 19
  | .smem => 1
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1024x2048, .f32⟩
  | .hbm, ⟨5, _⟩ => ⟨S2048, .f32⟩
  | .hbm, ⟨6, _⟩ => ⟨S2048x1024, .f32⟩
  | .hbm, ⟨7, _⟩ => ⟨S1024, .f32⟩
  | .hbm, ⟨8, _⟩ => ⟨S2048x4, .f32⟩
  | .hbm, ⟨9, _⟩ => ⟨S2048, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S1x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .i1⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256x1, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S1024x4096, .f32⟩
  | .hbm, ⟨55, _⟩ => ⟨S1024x4096, .bf16⟩
  | .hbm, ⟨56, _⟩ => ⟨S4096, .f32⟩
  | .hbm, ⟨57, _⟩ => ⟨S1x4096, .f32⟩
  | .hbm, ⟨58, _⟩ => ⟨S1024x3072, .f32⟩
  | .hbm, ⟨59, _⟩ => ⟨S1024x3072, .bf16⟩
  | .hbm, ⟨60, _⟩ => ⟨S1x1024, .f32⟩
  | .hbm, ⟨61, _⟩ => ⟨S4x2048, .f32⟩
  | .hbm, ⟨62, _⟩ => ⟨S1x2048, .f32⟩
  | .hbm, ⟨63, _⟩ => ⟨S2048x1024, .bf16⟩
  | .hbm, ⟨64, _⟩ => ⟨S1x1024, .f32⟩
  | .hbm, ⟨65, _⟩ => ⟨S1024x1024, .bf16⟩
  | .hbm, ⟨66, _⟩ => ⟨S4x2048x1024, .f32⟩
  | .local _ .vmem, ⟨0, _⟩ => ⟨S2x256x1024, .f32⟩
  | .local _ .vmem, ⟨1, _⟩ => ⟨S2x256x1024, .f32⟩
  | .local _ .vmem, ⟨2, _⟩ => ⟨S1x1024, .f32⟩
  | .local _ .vmem, ⟨3, _⟩ => ⟨S1024x4096, .bf16⟩
  | .local _ .vmem, ⟨4, _⟩ => ⟨S1x4096, .f32⟩
  | .local _ .vmem, ⟨5, _⟩ => ⟨S4x2048, .f32⟩
  | .local _ .vmem, ⟨6, _⟩ => ⟨S1x2048, .f32⟩
  | .local _ .vmem, ⟨7, _⟩ => ⟨S2048x1024, .bf16⟩
  | .local _ .vmem, ⟨8, _⟩ => ⟨S1x1024, .f32⟩
  | .local _ .vmem, ⟨9, _⟩ => ⟨S1024x3072, .bf16⟩
  | .local _ .vmem, ⟨10, _⟩ => ⟨S1024x1024, .bf16⟩
  | .local _ .vmem, ⟨11, _⟩ => ⟨S256x256, .f32⟩
  | .local _ .vmem, ⟨12, _⟩ => ⟨S256x1, .f32⟩
  | .local _ .vmem, ⟨13, _⟩ => ⟨S256x1, .f32⟩
  | .local _ .vmem, ⟨14, _⟩ => ⟨S2x256x1024, .f32⟩
  | .local _ .vmem, ⟨15, _⟩ => ⟨S2x256x1024, .f32⟩
  | .local _ .vmem, ⟨16, _⟩ => ⟨S2x1024x1024, .bf16⟩
  | .local _ .vmem, ⟨17, _⟩ => ⟨S2x264x2048, .f32⟩
  | .local _ .vmem, ⟨18, _⟩ => ⟨S2x8x2048, .f32⟩
  | .local _ .smem, ⟨0, _⟩ => ⟨S1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg14_0 : Ref sig .tc := ⟨.vmem, 14, rfl⟩
abbrev cc0_stg14_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S2x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S4x2048x1024 : Shape := ⟨3, ![4, 2048, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S2048x4 : Shape := ⟨2, ![2048, 4]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2048 : Shape := ⟨3, ![4, 2048, 2048]⟩
abbrev S1x1x2048 : Shape := ⟨3, ![1, 1, 2048]⟩
abbrev S4x2051x2048 : Shape := ⟨3, ![4, 2051, 2048]⟩
abbrev S2048x1 : Shape := ⟨2, ![2048, 1]⟩
abbrev S4x1024x1024 : Shape := ⟨3, ![4, 1024, 1024]⟩
abbrev S2048x4x1024 : Shape := ⟨3, ![2048, 4, 1024]⟩
abbrev S1x4x1024 : Shape := ⟨3, ![1, 4, 1024]⟩
abbrev S4x1024 : Shape := ⟨2, ![4, 1024]⟩
abbrev S4x1024x1 : Shape := ⟨3, ![4, 1024, 1]⟩
abbrev S4x1x1024 : Shape := ⟨3, ![4, 1, 1024]⟩

abbrev nBuf : Space → Nat
  | .hbm => 148
  | .vmem => 0
  | .smem => 0
  | _ => 0

abbrev hbmTy0_0 (i : Nat) : BufTy := match i % 128 with
  | 0 => ⟨S4x2048x1024, .f32⟩
  | 1 => ⟨S1024, .f32⟩
  | 2 => ⟨S1024x2048, .f32⟩
  | 3 => ⟨S2048, .f32⟩
  | 4 => ⟨S1024x2048, .f32⟩
  | 5 => ⟨S2048, .f32⟩
  | 6 => ⟨S2048x1024, .f32⟩
  | 7 => ⟨S1024, .f32⟩
  | 8 => ⟨S2048x4, .f32⟩
  | 9 => ⟨S2048, .f32⟩
  | 10 => ⟨S1024x1024, .f32⟩
  | 11 => ⟨S1024x1024, .f32⟩
  | 12 => ⟨S1024x1024, .f32⟩
  | 13 => ⟨S1024x1024, .f32⟩
  | 14 => ⟨S_, .f32⟩
  | 15 => ⟨S4x2048x1024, .f32⟩
  | 16 => ⟨S_, .f32⟩
  | 17 => ⟨S4x2048, .f32⟩
  | 18 => ⟨S4x2048x1, .f32⟩
  | 19 => ⟨S_, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1, .f32⟩
  | 26 => ⟨S4x2048x1024, .f32⟩
  | 27 => ⟨S4x2048x1024, .f32⟩
  | 28 => ⟨S1x1x1024, .f32⟩
  | 29 => ⟨S4x2048x1024, .f32⟩
  | 30 => ⟨S4x2048x1024, .f32⟩
  | 31 => ⟨S4x2048x2048, .f32⟩
  | 32 => ⟨S1x1x2048, .f32⟩
  | 33 => ⟨S4x2048x2048, .f32⟩
  | 34 => ⟨S4x2048x2048, .f32⟩
  | 35 => ⟨S_, .i32⟩
  | 36 => ⟨S_, .f32⟩
  | 37 => ⟨S4x2051x2048, .f32⟩
  | 38 => ⟨S4x2048x2048, .f32⟩
  | 39 => ⟨S2048x1, .f32⟩
  | 40 => ⟨S2048, .f32⟩
  | 41 => ⟨S1x1x2048, .f32⟩
  | 42 => ⟨S4x2048x2048, .f32⟩
  | 43 => ⟨S4x2048x2048, .f32⟩
  | 44 => ⟨S_, .f32⟩
  | 45 => ⟨S4x2048x2048, .f32⟩
  | 46 => ⟨S4x2048x2048, .f32⟩
  | 47 => ⟨S4x2048x2048, .f32⟩
  | 48 => ⟨S2048x1, .f32⟩
  | 49 => ⟨S2048, .f32⟩
  | 50 => ⟨S1x1x2048, .f32⟩
  | 51 => ⟨S4x2048x2048, .f32⟩
  | 52 => ⟨S4x2048x2048, .f32⟩
  | 53 => ⟨S4x2048x2048, .f32⟩
  | 54 => ⟨S4x2048x2048, .f32⟩
  | 55 => ⟨S2048x1, .f32⟩
  | 56 => ⟨S2048, .f32⟩
  | 57 => ⟨S1x1x2048, .f32⟩
  | 58 => ⟨S4x2048x2048, .f32⟩
  | 59 => ⟨S4x2048x2048, .f32⟩
  | 60 => ⟨S4x2048x2048, .f32⟩
  | 61 => ⟨S4x2048x2048, .f32⟩
  | 62 => ⟨S2048x1, .f32⟩
  | 63 => ⟨S2048, .f32⟩
  | 64 => ⟨S1x1x2048, .f32⟩
  | 65 => ⟨S4x2048x2048, .f32⟩
  | 66 => ⟨S4x2048x2048, .f32⟩
  | 67 => ⟨S4x2048x2048, .f32⟩
  | 68 => ⟨S1x1x2048, .f32⟩
  | 69 => ⟨S4x2048x2048, .f32⟩
  | 70 => ⟨S4x2048x2048, .f32⟩
  | 71 => ⟨S4x2048x2048, .f32⟩
  | 72 => ⟨S4x2048x2048, .f32⟩
  | 73 => ⟨S_, .f32⟩
  | 74 => ⟨S4x2048x2048, .f32⟩
  | 75 => ⟨S4x2048x2048, .f32⟩
  | 76 => ⟨S_, .f32⟩
  | 77 => ⟨S4x2048x2048, .f32⟩
  | 78 => ⟨S4x2048x2048, .f32⟩
  | 79 => ⟨S4x2048x2048, .f32⟩
  | 80 => ⟨S4x2048x2048, .f32⟩
  | 81 => ⟨S1x1x2048, .f32⟩
  | 82 => ⟨S4x2048x2048, .f32⟩
  | 83 => ⟨S4x2048x2048, .f32⟩
  | 84 => ⟨S4x2048x2048, .f32⟩
  | 85 => ⟨S4x2048x2048, .f32⟩
  | 86 => ⟨S_, .f32⟩
  | 87 => ⟨S4x2048x2048, .f32⟩
  | 88 => ⟨S4x2048x2048, .f32⟩
  | 89 => ⟨S_, .f32⟩
  | 90 => ⟨S4x2048x2048, .f32⟩
  | 91 => ⟨S4x2048x2048, .f32⟩
  | 92 => ⟨S4x2048x2048, .f32⟩
  | 93 => ⟨S4x2048x2048, .f32⟩
  | 94 => ⟨S4x2048x1024, .f32⟩
  | 95 => ⟨S1x1x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S_, .f32⟩
  | 102 => ⟨S4x1024x1024, .f32⟩
  | 103 => ⟨S2048x4x1024, .f32⟩
  | 104 => ⟨S2048x4x1024, .f32⟩
  | 105 => ⟨S2048x4x1024, .f32⟩
  | 106 => ⟨S_, .f32⟩
  | 107 => ⟨S2048x4x1024, .f32⟩
  | 108 => ⟨S_, .i32⟩
  | 109 => ⟨S2048x4x1024, .f32⟩
  | 110 => ⟨S2048x4x1024, .f32⟩
  | 111 => ⟨S2048x4x1024, .f32⟩
  | 112 => ⟨S_, .f32⟩
  | 113 => ⟨S_, .i32⟩
  | 114 => ⟨S4x1024x1024, .f32⟩
  | 115 => ⟨S2048x4x1024, .f32⟩
  | 116 => ⟨S_, .i32⟩
  | 117 => ⟨S_, .i1⟩
  | 118 => ⟨S_, .i32⟩
  | 119 => ⟨S_, .i32⟩
  | 120 => ⟨S1x4x1024, .f32⟩
  | 121 => ⟨S4x1024, .f32⟩
  | 122 => ⟨S_, .i32⟩
  | 123 => ⟨S_, .i32⟩
  | 124 => ⟨S1x4x1024, .f32⟩
  | 125 => ⟨S4x1024, .f32⟩
  | 126 => ⟨S_, .i32⟩
  | 127 => ⟨S_, .i32⟩
  | _ => ⟨S4x2048x1024, .f32⟩

abbrev hbmTy0_1 (i : Nat) : BufTy := match i % 128 with
  | 0 => ⟨S1x4x1024, .f32⟩
  | 1 => ⟨S4x1024, .f32⟩
  | 2 => ⟨S4x1024x1024, .f32⟩
  | 3 => ⟨S4x1024x1024, .f32⟩
  | 4 => ⟨S4x1024x1, .f32⟩
  | 5 => ⟨S4x1x1024, .f32⟩
  | 6 => ⟨S4x1024x1024, .f32⟩
  | 7 => ⟨S4x1024x1024, .f32⟩
  | 8 => ⟨S4x1024x1024, .f32⟩
  | 9 => ⟨S4x1024x1024, .f32⟩
  | 10 => ⟨S4x1024, .f32⟩
  | 11 => ⟨S1x4x1024, .f32⟩
  | 12 => ⟨S_, .i32⟩
  | 13 => ⟨S_, .i32⟩
  | 14 => ⟨S2048x4x1024, .f32⟩
  | 15 => ⟨S_, .i32⟩
  | 16 => ⟨S_, .i32⟩
  | 17 => ⟨S4x2048x1024, .f32⟩
  | 18 => ⟨S4x2048x1024, .f32⟩
  | 19 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_call0_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_3 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_4 : Ref sig .tc := ⟨.hbm, 106, rfl⟩
abbrev main_v68 : Ref sig .tc := ⟨.hbm, 107, rfl⟩
abbrev main_c_5 : Ref sig .tc := ⟨.hbm, 108, rfl⟩
abbrev main_v69_0 : Ref sig .tc := ⟨.hbm, 109, rfl⟩
abbrev main_v69_1 : Ref sig .tc := ⟨.hbm, 110, rfl⟩
abbrev main_v69_2 : Ref sig .tc := ⟨.hbm, 111, rfl⟩
abbrev main_v69_3 : Ref sig .tc := ⟨.hbm, 112, rfl⟩
abbrev main_v69_4 : Ref sig .tc := ⟨.hbm, 113, rfl⟩
abbrev main_v69_5 : Ref sig .tc := ⟨.hbm, 114, rfl⟩
abbrev main_v69_6 : Ref sig .tc := ⟨.hbm, 115, rfl⟩
abbrev main_while0c_c_12 : Ref sig .tc := ⟨.hbm, 116, rfl⟩
abbrev main_while0c_v73 : Ref sig .tc := ⟨.hbm, 117, rfl⟩
abbrev main_while0b_call3_c : Ref sig .tc := ⟨.hbm, 118, rfl⟩
abbrev main_while0b_call3_c_0 : Ref sig .tc := ⟨.hbm, 119, rfl⟩
abbrev main_while0b_call3_v0 : Ref sig .tc := ⟨.hbm, 120, rfl⟩
abbrev main_while0b_v73 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_v0 : Ref sig .tc := ⟨.hbm, 124, rfl⟩
abbrev main_while0b_v74 : Ref sig .tc := ⟨.hbm, 125, rfl⟩
abbrev main_while0b_call5_c : Ref sig .tc := ⟨.hbm, 126, rfl⟩
abbrev main_while0b_call5_c_0 : Ref sig .tc := ⟨.hbm, 127, rfl⟩
abbrev main_while0b_call5_v0 : Ref sig .tc := ⟨.hbm, 128, rfl⟩
abbrev main_while0b_v75 : Ref sig .tc := ⟨.hbm, 129, rfl⟩
abbrev main_while0b_v76 : Ref sig .tc := ⟨.hbm, 130, rfl⟩
abbrev main_while0b_v77 : Ref sig .tc := ⟨.hbm, 131, rfl⟩
abbrev main_while0b_v78 : Ref sig .tc := ⟨.hbm, 132, rfl⟩
abbrev main_while0b_v79 : Ref sig .tc := ⟨.hbm, 133, rfl⟩
abbrev main_while0b_v80 : Ref sig .tc := ⟨.hbm, 134, rfl⟩
abbrev main_while0b_v81 : Ref sig .tc := ⟨.hbm, 135, rfl⟩
abbrev main_while0b_v82 : Ref sig .tc := ⟨.hbm, 136, rfl⟩
abbrev main_while0b_v83 : Ref sig .tc := ⟨.hbm, 137, rfl⟩
abbrev main_while0b_v84 : Ref sig .tc := ⟨.hbm, 138, rfl⟩
abbrev main_while0b_call6_v0 : Ref sig .tc := ⟨.hbm, 139, rfl⟩
abbrev main_while0b_call6_c : Ref sig .tc := ⟨.hbm, 140, rfl⟩
abbrev main_while0b_call6_c_0 : Ref sig .tc := ⟨.hbm, 141, rfl⟩
abbrev main_while0b_v85 : Ref sig .tc := ⟨.hbm, 142, rfl⟩
abbrev main_while0b_c_12 : Ref sig .tc := ⟨.hbm, 143, rfl⟩
abbrev main_while0b_v86 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩

abbrev nD : Nat := 1
abbrev τ : Topo := Topo.v7x

variable {F : FTy → Type} [FloatOps F]

abbrev main_while0_count : Scf.Loop 32 := ⟨0#32, 2048#32, 1#32⟩
-- ==== Proof.Spec.lean ====
/-
  The layer's mathematics at single entries, over plain functions of `Fin` indices with values in the extended reals.

  `Args` holds the fifteen arguments; `Args.hT`, `gT`, `cT`, `uT`, `qT`, `kT`, `vT` are the intermediate arrays of the
  layer at (batch, time, channel), as the reference computes them. `Slot` holds what the kernel's body works on for one
  batch row of one grid point: a chunk of 256 time steps, the weights as the kernel lays them out, the three rows of `h`
  carried from the chunk before, and the memory matrix. `Slot.Y`, `Slot.Mn`, `Slot.Out`, `Slot.crn` are what it computes
  from them. `Slot.Fits` says that a slot's inputs are the arguments' entries for chunk `i` of batch row `b`; under it the
  slot's intermediate values are the layer's (`Fits.q`, `Fits.k`, `Fits.v`).
-/
module

public import Idealize.ShloMosaic.Lib.Pointwise

@[expose] public section

noncomputable section

open Idealize.ShloMosaic

namespace Cert.Heb

/-- `z · logistic z`. -/
def silu (z : EReal) : EReal := z * Ideal.logistic z

/-- Entry `d` of a row scaled by the reciprocal root of its mean square, times the weight. -/
def nrm (xr w : Fin 1024 → EReal) (d : Fin 1024) : EReal :=
  xr d * Ideal.rsqrt (Ideal.div (∑ k, xr k * xr k) (Ideal.ofBits .f32 0x44800000#32) + Ideal.ofBits .f32 0x358637BD#32) * w d

/-! ## The layer -/

/-- The fifteen arguments, entry by entry. -/
structure Args where
  x : Fin 4 → Fin 2048 → Fin 1024 → EReal
  nw : Fin 1024 → EReal
  uw : Fin 1024 → Fin 2048 → EReal
  ub : Fin 2048 → EReal
  gw : Fin 1024 → Fin 2048 → EReal
  gb : Fin 2048 → EReal
  dw : Fin 2048 → Fin 1024 → EReal
  db : Fin 1024 → EReal
  cw : Fin 2048 → Fin 4 → EReal
  cb : Fin 2048 → EReal
  wq : Fin 1024 → Fin 1024 → EReal
  wk : Fin 1024 → Fin 1024 → EReal
  wv : Fin 1024 → Fin 1024 → EReal
  wo : Fin 1024 → Fin 1024 → EReal
  dec : EReal

/-- The arguments' entries, read off the fifteen arrays. -/
def Args.of (x : Vec Ideal ⟨3, ![4, 2048, 1024]⟩ .f32) (nw : Vec Ideal ⟨1, ![1024]⟩ .f32)
    (uw : Vec Ideal ⟨2, ![1024, 2048]⟩ .f32) (ub : Vec Ideal ⟨1, ![2048]⟩ .f32)
    (gw : Vec Ideal ⟨2, ![1024, 2048]⟩ .f32) (gb : Vec Ideal ⟨1, ![2048]⟩ .f32)
    (dw : Vec Ideal ⟨2, ![2048, 1024]⟩ .f32) (db : Vec Ideal ⟨1, ![1024]⟩ .f32)
    (cw : Vec Ideal ⟨2, ![2048, 4]⟩ .f32) (cb : Vec Ideal ⟨1, ![2048]⟩ .f32)
    (wq wk wv wo : Vec Ideal ⟨2, ![1024, 1024]⟩ .f32) (dec : Vec Ideal ⟨0, ![]⟩ .f32) : Args where
  x b t d := x (ix3 b t d)
  nw k := nw (ix1 k)
  uw k j := uw (ix2 k j)
  ub j := ub (ix1 j)
  gw k j := gw (ix2 k j)
  gb j := gb (ix1 j)
  dw j d := dw (ix2 j d)
  db d := db (ix1 d)
  cw j n := cw (ix2 j n)
  cb j := cb (ix1 j)
  wq d e := wq (ix2 d e)
  wk d e := wk (ix2 d e)
  wv d e := wv (ix2 d e)
  wo e d := wo (ix2 e d)
  dec := dec ix0

namespace Args

variable (a : Args) (b : Fin 4)

/-- The up projection of the normed row. -/
def hT (t : Fin 2048) (j : Fin 2048) : EReal := (∑ k, nrm (a.x b t) a.nw k * a.uw k j) + a.ub j

/-- The gate projection of the normed row. -/
def gT (t : Fin 2048) (j : Fin 2048) : EReal := (∑ k, nrm (a.x b t) a.nw k * a.gw k j) + a.gb j

/-- `h` with three rows of zeros in front: row `p` is `h`'s row `p - 3`. -/
def hP (p : ℕ) (j : Fin 2048) : EReal := if h : 3 ≤ p ∧ p < 2051 then a.hT b ⟨p - 3, by omega⟩ j else 0

/-- The causal convolution of `h`, four taps per channel, with its bias. -/
def cT (t : Fin 2048) (j : Fin 2048) : EReal :=
  a.hP b t j * a.cw j 0 + a.hP b (t + 1) j * a.cw j 1 + a.hP b (t + 2) j * a.cw j 2 + a.hP b (t + 3) j * a.cw j 3 + a.cb j

/-- The gated product projected down. -/
def uT (t : Fin 2048) (d : Fin 1024) : EReal := (∑ j, silu (a.cT b t j) * silu (a.gT b t j) * a.dw j d) + a.db d

/-- The queries. -/
def qT (t : Fin 2048) (e : Fin 1024) : EReal := ∑ d, a.uT b t d * a.wq d e

/-- The keys. -/
def kT (t : Fin 2048) (e : Fin 1024) : EReal := ∑ d, a.uT b t d * a.wk d e

/-- The values. -/
def vT (t : Fin 2048) (e : Fin 1024) : EReal := ∑ d, a.uT b t d * a.wv d e

end Args

/-! ## One batch row of one grid point -/

/-- What the kernel's body reads for one of the two batch rows of a grid point. -/
structure Slot where
  X : Fin 256 → Fin 1024 → EReal
  nw : Fin 1024 → EReal
  ugw : Fin 1024 → Fin 4096 → EReal
  ugb : Fin 4096 → EReal
  cw : Fin 4 → Fin 2048 → EReal
  cb : Fin 2048 → EReal
  dw : Fin 2048 → Fin 1024 → EReal
  db : Fin 1024 → EReal
  wqkv : Fin 1024 → Fin 3072 → EReal
  wo : Fin 1024 → Fin 1024 → EReal
  gm : Fin 256 → Fin 256 → EReal
  qs : Fin 256 → EReal
  ks : Fin 256 → EReal
  gc : EReal
  cr : Fin 8 → Fin 2048 → EReal
  M : Fin 1024 → Fin 1024 → EReal

namespace Slot

variable (s : Slot)

/-- The up and gate projections side by side. -/
def HG (r : Fin 256) (j : Fin 4096) : EReal := (∑ k, nrm (s.X r) s.nw k * s.ugw k j) + s.ugb j

/-- The buffer of the convolution: eight carried rows, then the chunk's rows of `h`. -/
def HB (p : Fin 264) (j : Fin 2048) : EReal :=
  if h : (p : ℕ) < 8 then s.cr ⟨p, h⟩ j else s.HG ⟨p - 8, by omega⟩ ⟨j, by omega⟩

/-- The convolution, read off the buffer. -/
def CV (r : Fin 256) (j : Fin 2048) : EReal :=
  s.HB ⟨5 + r, by omega⟩ j * s.cw 0 j + s.HB ⟨6 + r, by omega⟩ j * s.cw 1 j + s.HB ⟨7 + r, by omega⟩ j * s.cw 2 j
    + s.HB ⟨8 + r, by omega⟩ j * s.cw 3 j + s.cb j

/-- The gate. -/
def GT (r : Fin 256) (j : Fin 2048) : EReal := s.HG r ⟨2048 + j, by omega⟩

/-- The gated product projected down. -/
def UU (r : Fin 256) (d : Fin 1024) : EReal := (∑ j, silu (s.CV r j) * silu (s.GT r j) * s.dw j d) + s.db d

/-- Queries, keys and values side by side. -/
def QKV (r : Fin 256) (e : Fin 3072) : EReal := ∑ d, s.UU r d * s.wqkv d e

/-- The queries. -/
def Q (r : Fin 256) (e : Fin 1024) : EReal := s.QKV r ⟨e, by omega⟩

/-- The keys. -/
def K (r : Fin 256) (e : Fin 1024) : EReal := s.QKV r ⟨1024 + e, by omega⟩

/-- The values. -/
def V (r : Fin 256) (e : Fin 1024) : EReal := s.QKV r ⟨2048 + e, by omega⟩

/-- The chunk's read of the memory: within the chunk by the masked products, before it by the matrix. -/
def Y (r : Fin 256) (e : Fin 1024) : EReal :=
  (∑ t, (∑ d, s.Q r d * s.K t d) * s.gm r t * s.V t e) + ∑ d, s.Q r d * s.qs r * s.M d e

/-- The memory matrix after the chunk. -/
def Mn (d e : Fin 1024) : EReal := s.gc * s.M d e + ∑ t, s.K t d * s.ks t * s.V t e

/-- The chunk of the result. -/
def Out (r : Fin 256) (d : Fin 1024) : EReal := s.X r d + ∑ e, s.Y r e * s.wo e d

/-- The carried rows after the chunk: the last three are the chunk's last three rows of `h`. -/
def crn (p : Fin 8) (j : Fin 2048) : EReal := if 5 ≤ (p : ℕ) then s.HB ⟨256 + p, by omega⟩ j else s.cr p j

/-- The slot's inputs are the arguments' entries for chunk `i` of batch row `b`. -/
structure Fits (s : Slot) (a : Args) (b : Fin 4) (i : Fin 8) : Prop where
  X : ∀ r k, s.X r k = a.x b ⟨256 * i + r, by omega⟩ k
  nw : ∀ k, s.nw k = a.nw k
  uw : ∀ k (j : Fin 2048), s.ugw k ⟨j, by omega⟩ = a.uw k j
  gw : ∀ k (j : Fin 2048), s.ugw k ⟨2048 + j, by omega⟩ = a.gw k j
  ub : ∀ j : Fin 2048, s.ugb ⟨j, by omega⟩ = a.ub j
  gb : ∀ j : Fin 2048, s.ugb ⟨2048 + j, by omega⟩ = a.gb j
  cw : ∀ n j, s.cw n j = a.cw j n
  cb : ∀ j, s.cb j = a.cb j
  dw : ∀ j d, s.dw j d = a.dw j d
  db : ∀ d, s.db d = a.db d
  wq : ∀ d (e : Fin 1024), s.wqkv d ⟨e, by omega⟩ = a.wq d e
  wk : ∀ d (e : Fin 1024), s.wqkv d ⟨1024 + e, by omega⟩ = a.wk d e
  wv : ∀ d (e : Fin 1024), s.wqkv d ⟨2048 + e, by omega⟩ = a.wv d e
  wo : ∀ e d, s.wo e d = a.wo e d
  cr : ∀ (p : Fin 8) j, 5 ≤ (p : ℕ) → s.cr p j = a.hP b (256 * i + p - 5) j

namespace Fits

variable {s : Slot} {a : Args} {b : Fin 4} {i : Fin 8}

theorem nrm_eq (f : Fits s a b i) (r : Fin 256) (k : Fin 1024) :
    nrm (s.X r) s.nw k = nrm (a.x b ⟨256 * i + r, by omega⟩) a.nw k := by
  rw [show s.X r = a.x b ⟨256 * i + r, by omega⟩ from funext (f.X r), show s.nw = a.nw from funext f.nw]

/-- The left half of the projections is `h`. -/
theorem hg_h (f : Fits s a b i) (r : Fin 256) (j : Fin 2048) :
    s.HG r ⟨j, by omega⟩ = a.hT b ⟨256 * i + r, by omega⟩ j := by
  simp only [HG, Args.hT, f.nrm_eq, f.uw, f.ub]

/-- The right half of the projections is the gate. -/
theorem gt (f : Fits s a b i) (r : Fin 256) (j : Fin 2048) : s.GT r j = a.gT b ⟨256 * i + r, by omega⟩ j := by
  simp only [GT, HG, Args.gT, f.nrm_eq, f.gw, f.gb]

/-- From its sixth row on, the buffer holds the rows of the padded `h`. -/
theorem hb (f : Fits s a b i) (p : Fin 264) (hp : 5 ≤ (p : ℕ)) (j : Fin 2048) :
    s.HB p j = a.hP b (256 * i + p - 5) j := by
  unfold HB
  by_cases h : (p : ℕ) < 8
  · rw [dif_pos h]; exact f.cr ⟨p, h⟩ j hp
  · rw [dif_neg h, f.hg_h ⟨p - 8, by omega⟩ j]
    unfold Args.hP
    rw [dif_pos (by omega)]
    congr 1
    exact Fin.ext (by simp only; omega)

theorem cv (f : Fits s a b i) (r : Fin 256) (j : Fin 2048) : s.CV r j = a.cT b ⟨256 * i + r, by omega⟩ j := by
  unfold CV Args.cT
  rw [f.hb _ (by simp only; omega), f.hb _ (by simp only; omega), f.hb _ (by simp only; omega), f.hb _ (by simp only; omega)]
  simp only [f.cw, f.cb]
  have e (n : ℕ) : 256 * (i : ℕ) + (5 + n + r) - 5 = 256 * i + r + n := by omega
  have e0 := e 0; have e1 := e 1; have e2 := e 2; have e3 := e 3
  simp only [Nat.reduceAdd, Nat.add_zero] at e0 e1 e2 e3
  rw [e0, e1, e2, e3]

theorem uu (f : Fits s a b i) (r : Fin 256) (d : Fin 1024) : s.UU r d = a.uT b ⟨256 * i + r, by omega⟩ d := by
  simp only [UU, Args.uT, f.cv, f.gt, f.dw, f.db]

theorem q (f : Fits s a b i) (r : Fin 256) (e : Fin 1024) : s.Q r e = a.qT b ⟨256 * i + r, by omega⟩ e := by
  simp only [Q, QKV, Args.qT, f.uu, f.wq]

theorem k (f : Fits s a b i) (r : Fin 256) (e : Fin 1024) : s.K r e = a.kT b ⟨256 * i + r, by omega⟩ e := by
  simp only [K, QKV, Args.kT, f.uu, f.wk]

theorem v (f : Fits s a b i) (r : Fin 256) (e : Fin 1024) : s.V r e = a.vT b ⟨256 * i + r, by omega⟩ e := by
  simp only [V, QKV, Args.vT, f.uu, f.wv]

/-- The carried rows after chunk `i` are those chunk `i + 1` needs. -/
theorem crn (f : Fits s a b i) (p : Fin 8) (j : Fin 2048) (hp : 5 ≤ (p : ℕ)) :
    s.crn p j = a.hP b (256 * (i + 1) + p - 5) j := by
  unfold Slot.crn
  rw [if_pos hp, f.hb _ (by simp only; omega)]
  congr 1
  simp only; omega

end Fits

end Slot

end Cert.Heb
-- ==== Proof.Payloads.lean ====
/-
  What the kernel's body computes, entry by entry: every value that a store of the body writes, read at an index, is the
  entry of `Slot` that the mathematics gives (Spec.lean). `Vecs` holds the blocks of the weights and tables at a grid point;
  `Vecs.slot` makes the slot of one batch row from them, from the row's chunk of `x`, its carried rows and its memory matrix.
  The body treats the two batch rows of a point by two runs of the same operations, cut differently into named values:
  `pay4` to `pay19` belong to the first row, `pay20` to `pay37` and `pay1` to the second.
-/
module

public import proofs.«01_k».proof.Proof.Spec
public import proofs.«01_k».proof.Proof.Gen.KernelIdeal.Value

@[expose] public section

set_option maxRecDepth 16384

noncomputable section

open Idealize.ShloMosaic Idealize.ShloMosaic.TcCoe

namespace Cert.KernelIdeal.Pay

open Cert.KernelIdeal Cert.KernelIdeal.Gen Cert.Heb

/-- The blocks of the weights and of the four decay tables at a grid point, in the order of the kernel's operands. -/
structure Vecs where
  x1 : Vec Ideal S1x1024 .f32
  x2 : Vec Ideal S1024x4096 .bf16
  x3 : Vec Ideal S1x4096 .f32
  x4 : Vec Ideal S4x2048 .f32
  x5 : Vec Ideal S1x2048 .f32
  x6 : Vec Ideal S2048x1024 .bf16
  x7 : Vec Ideal S1x1024 .f32
  x8 : Vec Ideal S1024x3072 .bf16
  x9 : Vec Ideal S1024x1024 .bf16
  x10 : Vec Ideal S256x256 .f32
  x11 : Vec Ideal S256x1 .f32
  x12 : Vec Ideal S256x1 .f32
  x13 : Vec Ideal S1 .f32

/-- The slot of one batch row: its chunk of `x`, its carried rows and its memory matrix beside the blocks. -/
def Vecs.slot (w : Vecs) (v3 : Vec Ideal S1x256x1024 .f32) (c8 : Vec Ideal S1x8x2048 .f32)
    (M1 : Vec Ideal S1x1024x1024 .bf16) : Slot where
  X r k := v3 (ix3 0 r k)
  nw k := w.x1 (ix2 0 k)
  ugw k j := w.x2 (ix2 k j)
  ugb j := w.x3 (ix2 0 j)
  cw n j := w.x4 (ix2 n j)
  cb j := w.x5 (ix2 0 j)
  dw j d := w.x6 (ix2 j d)
  db d := w.x7 (ix2 0 d)
  wqkv d e := w.x8 (ix2 d e)
  wo e d := w.x9 (ix2 e d)
  gm r t := w.x10 (ix2 r t)
  qs r := w.x11 (ix2 r 0)
  ks t := w.x12 (ix2 t 0)
  gc := w.x13 (ix1 0)
  cr p j := c8 (ix3 0 p j)
  M d e := M1 (ix3 0 d e)

/-- From its ninth row on, the convolution's buffer holds the chunk's rows of `h`. -/
theorem hb_tail (s : Slot) (r : Fin 256) (j : Fin 2048) : s.HB ⟨8 + r, by omega⟩ j = s.HG r ⟨j, by omega⟩ := by
  unfold Slot.HB
  rw [dif_neg (by simp only; omega)]
  congr 1
  exact Fin.ext (by simp only; omega)

variable (w : Vecs) (v3 : Vec Ideal S1x256x1024 .f32) (c8 : Vec Ideal S1x8x2048 .f32) (M1 : Vec Ideal S1x1024x1024 .bf16)

/-! ## The first batch row of a point -/

theorem pay4_at (r : Fin 256) (k : Fin 1024) : k0_pay4 v3 (ix2 r k) = (w.slot v3 c8 M1).X r k := by
  pointwise [k0_pay4, Vecs.slot]

theorem pay5_at (r : Fin 256) (j : Fin 4096) : k0_pay5 v3 w.x1 w.x2 w.x3 (ix2 r j) = (w.slot v3 c8 M1).HG r j := by
  pointwise [k0_pay5, k0_pay4, Slot.HG, nrm, Vecs.slot]

theorem pay6_at (r : Fin 256) (j : Fin 2048) :
    k0_pay6 v3 w.x1 w.x2 w.x3 (ix2 r j) = (w.slot v3 c8 M1).HB ⟨8 + r, by omega⟩ j := by
  rw [hb_tail, ← pay5_at]
  pointwise [k0_pay6]

theorem pay7_at (r : Fin 256) (j : Fin 2048) : k0_pay7 v3 w.x1 w.x2 w.x3 (ix2 r j) = (w.slot v3 c8 M1).GT r j := by
  unfold Slot.GT
  rw [← pay5_at]
  pointwise [k0_pay7]

theorem pay8_at (r : Fin 256) (j : Fin 2048) :
    k0_pay8 v3 w.x1 w.x2 w.x3 (ix3 0 r j) = (w.slot v3 c8 M1).HB ⟨8 + r, by omega⟩ j := by
  rw [← pay6_at]
  pointwise [k0_pay8]

theorem pay10_at (p : Fin 8) (j : Fin 2048) : k0_pay10 (k0_pay9 c8) (ix3 0 p j) = (w.slot v3 c8 M1).cr p j := by
  pointwise [k0_pay10, k0_pay9, Vecs.slot]

theorem pay11_at (v64 : Vec Ideal S1x3x2048 .f32) (p : Fin 3) (j : Fin 2048) : k0_pay11 v64 (ix3 0 p j) = v64 (ix3 0 p j) := by
  pointwise [k0_pay11]

section
variable {w v3 c8 M1}

theorem pay12_at {v27 : FVec Ideal S256x2048 .f32} {v39 v44 v50 : Vec Ideal S1x256x2048 .f32}
    (h27 : ∀ r j, v27 (ix2 r j) = (w.slot v3 c8 M1).HB ⟨8 + r, by omega⟩ j)
    (h39 : ∀ r j, v39 (ix3 0 r j) = (w.slot v3 c8 M1).HB ⟨5 + r, by omega⟩ j)
    (h44 : ∀ r j, v44 (ix3 0 r j) = (w.slot v3 c8 M1).HB ⟨6 + r, by omega⟩ j)
    (h50 : ∀ r j, v50 (ix3 0 r j) = (w.slot v3 c8 M1).HB ⟨7 + r, by omega⟩ j) (r : Fin 256) (j : Fin 2048) :
    k0_pay12 v27 w.x4 v39 v44 v50 w.x5 (ix2 r j) = silu ((w.slot v3 c8 M1).CV r j) := by
  unfold Slot.CV
  rw [← h27, ← h39, ← h44, ← h50]
  pointwise [k0_pay12, silu, Vecs.slot]

variable {v28 v70 : FVec Ideal S256x2048 .f32}
    (h28 : ∀ r j, v28 (ix2 r j) = (w.slot v3 c8 M1).GT r j)
    (h70 : ∀ r j, v70 (ix2 r j) = silu ((w.slot v3 c8 M1).CV r j))
include h28 h70

theorem pay13_at (r : Fin 256) (e : Fin 3072) :
    k0_pay13 v28 v70 w.x6 w.x7 w.x8 (ix2 r e) = (w.slot v3 c8 M1).QKV r e := by
  unfold Slot.QKV Slot.UU
  simp only [← h28, ← h70]
  pointwise [k0_pay13, silu, Vecs.slot]

theorem pay14_at (r : Fin 256) (e : Fin 1024) :
    k0_pay14 v28 v70 w.x6 w.x7 w.x8 (ix2 r e) = (w.slot v3 c8 M1).K r e := by
  unfold Slot.K
  rw [← pay13_at h28 h70]
  pointwise [k0_pay14]

theorem pay15_at (r : Fin 256) (e : Fin 1024) :
    k0_pay15 v28 v70 w.x6 w.x7 w.x8 (ix2 r e) = (w.slot v3 c8 M1).V r e := by
  unfold Slot.V
  rw [← pay13_at h28 h70]
  pointwise [k0_pay15]

theorem pay16_at (r : Fin 256) (e : Fin 1024) :
    k0_pay16 v28 v70 w.x6 w.x7 w.x8 w.x10 w.x11 M1 (ix2 r e) = (w.slot v3 c8 M1).Y r e := by
  unfold Slot.Y Slot.Q
  simp only [← pay13_at h28 h70, ← pay14_at h28 h70, ← pay15_at h28 h70]
  pointwise [k0_pay16, Vecs.slot]

theorem pay17_at (t : Fin 256) (d : Fin 1024) :
    k0_pay17 v28 v70 w.x6 w.x7 w.x8 w.x12 (ix2 t d) = (w.slot v3 c8 M1).K t d * (w.slot v3 c8 M1).ks t := by
  rw [← pay14_at h28 h70]
  pointwise [k0_pay17, Vecs.slot]

theorem pay18_at {v112 : Elt Ideal .f32} (h112 : v112 = (w.slot v3 c8 M1).gc) (d e : Fin 1024) :
    k0_pay18 (k0_pay15 v28 v70 w.x6 w.x7 w.x8) (k0_pay17 v28 v70 w.x6 w.x7 w.x8 w.x12) v112 M1 (ix3 0 d e)
      = (w.slot v3 c8 M1).Mn d e := by
  unfold Slot.Mn
  simp only [← pay17_at h28 h70, ← pay15_at h28 h70, ← h112]
  pointwise [k0_pay18, Vecs.slot]

theorem pay19_at (r : Fin 256) (d : Fin 1024) :
    k0_pay19 (k0_pay4 v3) (k0_pay16 v28 v70 w.x6 w.x7 w.x8 w.x10 w.x11 M1) w.x9 (ix3 0 r d)
      = (w.slot v3 c8 M1).Out r d := by
  unfold Slot.Out
  simp only [← pay16_at h28 h70, ← pay4_at w v3 c8 M1]
  pointwise [k0_pay19, Vecs.slot]

end

/-! ## The second batch row of a point -/

theorem pay20_at (r : Fin 256) (k : Fin 1024) : k0_pay20 v3 (ix2 r k) = (w.slot v3 c8 M1).X r k := by
  pointwise [k0_pay20, Vecs.slot]

theorem pay23_at (r : Fin 256) (j : Fin 4096) :
    k0_pay23 (k0_pay21 v3) (k0_pay22 w.x1) w.x2 w.x3 (ix2 r j) = (w.slot v3 c8 M1).HG r j := by
  pointwise [k0_pay23, k0_pay22, k0_pay21, k0_pay20, Slot.HG, nrm, Vecs.slot]

theorem pay24_at (r : Fin 256) (j : Fin 2048) :
    k0_pay24 (k0_pay21 v3) (k0_pay22 w.x1) w.x2 w.x3 (ix2 r j) = (w.slot v3 c8 M1).HB ⟨8 + r, by omega⟩ j := by
  rw [hb_tail, ← pay23_at]
  pointwise [k0_pay24]

theorem pay25_at (r : Fin 256) (j : Fin 2048) :
    k0_pay25 (k0_pay21 v3) (k0_pay22 w.x1) w.x2 w.x3 (ix2 r j) = (w.slot v3 c8 M1).GT r j := by
  unfold Slot.GT
  rw [← pay23_at]
  pointwise [k0_pay25]

theorem pay26_at (r : Fin 256) (j : Fin 2048) :
    k0_pay26 (k0_pay21 v3) (k0_pay22 w.x1) w.x2 w.x3 (ix3 0 r j) = (w.slot v3 c8 M1).HB ⟨8 + r, by omega⟩ j := by
  rw [← pay24_at]
  pointwise [k0_pay26]

theorem pay27_at (p : Fin 8) (j : Fin 2048) : k0_pay27 c8 (ix3 0 p j) = (w.slot v3 c8 M1).cr p j := by
  pointwise [k0_pay27, Vecs.slot]

theorem pay30_at (v193 : Vec Ideal S1x3x2048 .f32) (p : Fin 3) (j : Fin 2048) : k0_pay30 v193 (ix3 0 p j) = v193 (ix3 0 p j) := by
  pointwise [k0_pay30]

section
variable {w v3 c8 M1}
variable {v156 v157 : FVec Ideal S256x2048 .f32} {v168 v173 v179 : Vec Ideal S1x256x2048 .f32}
    (h156 : ∀ r j, v156 (ix2 r j) = (w.slot v3 c8 M1).HB ⟨8 + r, by omega⟩ j)
    (h157 : ∀ r j, v157 (ix2 r j) = (w.slot v3 c8 M1).GT r j)
    (h168 : ∀ r j, v168 (ix3 0 r j) = (w.slot v3 c8 M1).HB ⟨5 + r, by omega⟩ j)
    (h173 : ∀ r j, v173 (ix3 0 r j) = (w.slot v3 c8 M1).HB ⟨6 + r, by omega⟩ j)
    (h179 : ∀ r j, v179 (ix3 0 r j) = (w.slot v3 c8 M1).HB ⟨7 + r, by omega⟩ j)
include h156 h157 h168 h173 h179

theorem pay31_at (r : Fin 256) (e : Fin 3072) :
    k0_pay31 v156 v157 (k0_pay28 w.x4) (k0_pay29 w.x4 v168 v173) v179 w.x5 w.x6 w.x7 w.x8 (ix2 r e)
      = (w.slot v3 c8 M1).QKV r e := by
  unfold Slot.QKV Slot.UU Slot.CV
  simp only [← h156, ← h157, ← h168, ← h173, ← h179]
  pointwise [k0_pay31, k0_pay28, k0_pay29, silu, Vecs.slot]

theorem pay32_at (r : Fin 256) (e : Fin 1024) :
    k0_pay32 v156 v157 (k0_pay28 w.x4) (k0_pay29 w.x4 v168 v173) v179 w.x5 w.x6 w.x7 w.x8 (ix2 r e)
      = (w.slot v3 c8 M1).Q r e := by
  unfold Slot.Q
  rw [← pay31_at h156 h157 h168 h173 h179]
  pointwise [k0_pay32]

theorem pay33_at (r : Fin 256) (e : Fin 1024) :
    k0_pay33 v156 v157 (k0_pay28 w.x4) (k0_pay29 w.x4 v168 v173) v179 w.x5 w.x6 w.x7 w.x8 (ix2 r e)
      = (w.slot v3 c8 M1).K r e := by
  unfold Slot.K
  rw [← pay31_at h156 h157 h168 h173 h179]
  pointwise [k0_pay33]

theorem pay34_at (r : Fin 256) (e : Fin 1024) :
    k0_pay34 v156 v157 (k0_pay28 w.x4) (k0_pay29 w.x4 v168 v173) v179 w.x5 w.x6 w.x7 w.x8 (ix2 r e)
      = (w.slot v3 c8 M1).V r e := by
  unfold Slot.V
  rw [← pay31_at h156 h157 h168 h173 h179]
  pointwise [k0_pay34]

theorem pay35_at (r t : Fin 256) :
    k0_pay35 v156 v157 (k0_pay28 w.x4) (k0_pay29 w.x4 v168 v173) v179 w.x5 w.x6 w.x7 w.x8 (ix2 r t)
      = ∑ d, (w.slot v3 c8 M1).Q r d * (w.slot v3 c8 M1).K t d := by
  simp only [← pay32_at h156 h157 h168 h173 h179, ← pay33_at h156 h157 h168 h173 h179]
  pointwise [k0_pay35]

theorem pay36_at {v241 : Elt Ideal .f32} (h241 : v241 = (w.slot v3 c8 M1).gc) (d e : Fin 1024) :
    k0_pay36 (k0_pay33 v156 v157 (k0_pay28 w.x4) (k0_pay29 w.x4 v168 v173) v179 w.x5 w.x6 w.x7 w.x8)
      (k0_pay34 v156 v157 (k0_pay28 w.x4) (k0_pay29 w.x4 v168 v173) v179 w.x5 w.x6 w.x7 w.x8) w.x12 v241 M1 (ix3 0 d e)
      = (w.slot v3 c8 M1).Mn d e := by
  unfold Slot.Mn
  simp only [← pay33_at h156 h157 h168 h173 h179, ← pay34_at h156 h157 h168 h173 h179, ← h241]
  pointwise [k0_pay36, Vecs.slot]

theorem pay1_at (r : Fin 256) (d : Fin 1024) :
    k0_pay1 (k0_pay37 (k0_pay20 v3)
      (k0_pay32 v156 v157 (k0_pay28 w.x4) (k0_pay29 w.x4 v168 v173) v179 w.x5 w.x6 w.x7 w.x8)
      (k0_pay34 v156 v157 (k0_pay28 w.x4) (k0_pay29 w.x4 v168 v173) v179 w.x5 w.x6 w.x7 w.x8)
      (k0_pay35 v156 v157 (k0_pay28 w.x4) (k0_pay29 w.x4 v168 v173) v179 w.x5 w.x6 w.x7 w.x8)
      w.x10 w.x11 M1 w.x9) (ix3 0 r d)
      = (w.slot v3 c8 M1).Out r d := by
  unfold Slot.Out Slot.Y
  simp only [← pay35_at h156 h157 h168 h173 h179]
  simp only [← pay32_at h156 h157 h168 h173 h179, ← pay34_at h156 h157 h168 h173 h179, ← pay20_at w v3 c8 M1]
  pointwise [k0_pay1, k0_pay37, Vecs.slot]

end

end Cert.KernelIdeal.Pay
-- ==== Proof.Blocks.lean ====
/-
  What one grid point leaves in the result block, the memory matrices and the carried rows. `slotOf` is the slot of batch
  row `g` of a point, from the point's blocks and from what the point before left (`C`: the carried rows, `M`: the
  matrices); `out_A`, `mem_A`, `car_A` treat the first point of a pair of batch rows, where both start as zeros, and
  `out_B`, `mem_B`, `car_B` the others.
-/
module

public import proofs.«01_k».proof.Proof.Payloads
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Blk

open Cert.KernelIdeal Cert.KernelIdeal.Gen Cert.KernelIdeal.Pay Cert.Heb

/-! ## Bands of rows of one slice of a rank-3 array -/

section
variable {d0 d1 d2 : ℕ} {e : EltTy} {g o n : ℕ}

/-- Position `(0, x, j)` of the band of `n` rows from row `o` of slice `g` is `(g, o + x, j)` of the array. -/
theorem idx_band (inb) (a : Fin d0) (p : Fin d1) (x : Fin n) (j : Fin d2) (ha : (a : ℕ) = g) (hp : (p : ℕ) = o + x) :
    (Rect.unit (s := ⟨3, ![d0, d1, d2]⟩) ![g, o, 0] ![1, n, d2] inb).idx (ix3 0 x j) = ix3 a p j := by
  refine funext fun k => Fin.ext ?_
  match k with
  | ⟨0, _⟩ => simp [LoadRect.idx, ix3, ha]
  | ⟨1, _⟩ => simp [LoadRect.idx, ix3, hp]
  | ⟨2, _⟩ => simp [LoadRect.idx, ix3]

/-- Where a band lies. -/
theorem mem_band (inb) (a : Fin d0) (p : Fin d1) (j : Fin d2) (ha : (a : ℕ) = g) (ho : o ≤ p) (hn : (p : ℕ) < o + n) :
    ix3 a p j ∈ (Rect.unit (s := ⟨3, ![d0, d1, d2]⟩) ![g, o, 0] ![1, n, d2] inb).set := by
  refine Rect.mem_set_unit.mpr fun k => ?_
  match k with
  | ⟨0, _⟩ => exact ⟨ha.ge, ha.trans_lt (Nat.lt_succ_self g)⟩
  | ⟨1, _⟩ => exact ⟨ho, hn⟩
  | ⟨2, _⟩ => exact ⟨Nat.zero_le _, j.isLt.trans_eq (Nat.zero_add d2).symm⟩

/-- The newest store, to a band, read inside the band. -/
theorem canon_hit (inb) (w : (⟨3, ![1, n, d2]⟩ : Shape).Idx → Elt Ideal e) (L : List (View.Piece (Elt Ideal) ⟨3, ![d0, d1, d2]⟩ e))
    (a : Fin d0) (p : Fin d1) (x : Fin n) (j : Fin d2) (ha : (a : ℕ) = g) (hp : (p : ℕ) = o + x) :
    View.canon (⟨Rect.unit (s := ⟨3, ![d0, d1, d2]⟩) ![g, o, 0] ![1, n, d2] inb, w⟩ :: L) (ix3 a p j) = w (ix3 0 x j) := by
  rw [← idx_band inb a p x j ha hp]
  exact View.canon_cons_emb (Rect.unit (s := ⟨3, ![d0, d1, d2]⟩) ![g, o, 0] ![1, n, d2] inb) w L (ix3 0 x j)

/-- The newest store, to a band, read outside the band. -/
theorem canon_miss (inb) (w : (⟨3, ![1, n, d2]⟩ : Shape).Idx → Elt Ideal e) (L : List (View.Piece (Elt Ideal) ⟨3, ![d0, d1, d2]⟩ e))
    (a : Fin d0) (p : Fin d1) (j : Fin d2) (h : (a : ℕ) ≠ g ∨ (p : ℕ) < o ∨ o + n ≤ p) :
    View.canon (⟨Rect.unit (s := ⟨3, ![d0, d1, d2]⟩) ![g, o, 0] ![1, n, d2] inb, w⟩ :: L) (ix3 a p j)
      = View.canon L (ix3 a p j) := by
  refine View.canon_cons_of_not_mem _ L ?_
  rcases h with h | h
  · exact Rect.not_mem_set_of_axis _ _ (0 : Fin 3) g 1 rfl rfl rfl (by show (a : ℕ) < g ∨ g + 1 ≤ (a : ℕ); omega)
  · exact Rect.not_mem_set_of_axis _ _ (1 : Fin 3) o n rfl rfl rfl h

end

/-- The two slices of an array stored one after the other, read in the second, -/
theorem two_one {d1 d2 : ℕ} {e : EltTy} (i1) (w1 : (⟨3, ![1, d1, d2]⟩ : Shape).Idx → Elt Ideal e)
    (L : List (View.Piece (Elt Ideal) ⟨3, ![2, d1, d2]⟩ e)) (p : Fin d1) (j : Fin d2) :
    View.canon (⟨Rect.unit (s := ⟨3, ![2, d1, d2]⟩) ![1, 0, 0] ![1, d1, d2] i1, w1⟩ :: L) (ix3 1 p j) = w1 (ix3 0 p j) :=
  canon_hit i1 w1 L 1 p p j rfl (Nat.zero_add _).symm

/-- and in the first. -/
theorem two_zero {d1 d2 : ℕ} {e : EltTy} (i1) (w1 : (⟨3, ![1, d1, d2]⟩ : Shape).Idx → Elt Ideal e)
    (i0) (w0 : (⟨3, ![1, d1, d2]⟩ : Shape).Idx → Elt Ideal e)
    (L : List (View.Piece (Elt Ideal) ⟨3, ![2, d1, d2]⟩ e)) (p : Fin d1) (j : Fin d2) :
    View.canon (⟨Rect.unit (s := ⟨3, ![2, d1, d2]⟩) ![1, 0, 0] ![1, d1, d2] i1, w1⟩
      :: ⟨Rect.unit (s := ⟨3, ![2, d1, d2]⟩) ![0, 0, 0] ![1, d1, d2] i0, w0⟩ :: L) (ix3 0 p j) = w0 (ix3 0 p j) :=
  (canon_miss i1 w1 _ 0 p j (.inl Nat.zero_ne_one)).trans (canon_hit i0 w0 L 0 p p j rfl (Nat.zero_add _).symm)

/-! ## The convolution's buffer -/

section
variable (s : Slot) {g : ℕ} (hg : g < 2) {inb1 inb2}
  (cw : Vec Ideal S1x8x2048 .f32) (hw : Vec Ideal S1x256x2048 .f32) (L : List (View.Piece (Elt Ideal) S2x264x2048 .f32))
include hg

/-- After the chunk's rows are stored, the rows from the ninth on read as the slot's buffer. -/
theorem buf_rows {n o : ℕ} (inb) (hh : ∀ r j, hw (ix3 0 r j) = s.HB ⟨8 + r, by omega⟩ j)
    (ho : 8 ≤ o) (hn : o + n ≤ 264) (r : Fin n) (j : Fin 2048) :
    (View.whole cc0_scratch1).readCov (⟨Rect.unit ![g, 8, 0] ![1, 256, 2048] inb2, hw⟩ :: L)
      (Rect.unit (s := S2x264x2048) ![g, o, 0] ![1, n, 2048] inb).toLoadRect (ix3 0 r j) = s.HB ⟨o + r, by omega⟩ j := by
  rw [View.readCov_eq_canon']
  refine (congrArg (View.canon _) (idx_band inb ⟨g, hg⟩ ⟨o + r, by omega⟩ r j rfl rfl)).trans ?_
  refine (canon_hit inb2 hw L ⟨g, hg⟩ ⟨o + r, by omega⟩ ⟨o + r - 8, by omega⟩ j rfl (by simp only; omega)).trans ?_
  rw [hh]
  congr 1
  exact Fin.ext (by simp only; omega)

/-- After the carried rows are stored too, every row reads as the slot's buffer. -/
theorem buf_all {n o : ℕ} (inb) (hc : ∀ p j, cw (ix3 0 p j) = s.cr p j)
    (hh : ∀ r j, hw (ix3 0 r j) = s.HB ⟨8 + r, by omega⟩ j) (hn : o + n ≤ 264) (r : Fin n) (j : Fin 2048) :
    (View.whole cc0_scratch1).readCov
      (⟨Rect.unit ![g, 0, 0] ![1, 8, 2048] inb1, cw⟩ :: ⟨Rect.unit ![g, 8, 0] ![1, 256, 2048] inb2, hw⟩ :: L)
      (Rect.unit (s := S2x264x2048) ![g, o, 0] ![1, n, 2048] inb).toLoadRect (ix3 0 r j) = s.HB ⟨o + r, by omega⟩ j := by
  rw [View.readCov_eq_canon']
  refine (congrArg (View.canon _) (idx_band inb ⟨g, hg⟩ ⟨o + r, by omega⟩ r j rfl rfl)).trans ?_
  by_cases h8 : o + r < 8
  · refine (canon_hit inb1 cw _ ⟨g, hg⟩ ⟨o + r, by omega⟩ ⟨o + r, h8⟩ j rfl (by simp only; omega)).trans ?_
    rw [hc, Slot.HB, dif_pos h8]
  · refine (canon_miss inb1 cw _ ⟨g, hg⟩ ⟨o + r, by omega⟩ j (by simp only; omega)).trans ?_
    refine (canon_hit inb2 hw L ⟨g, hg⟩ ⟨o + r, by omega⟩ ⟨o + r - 8, by omega⟩ j rfl (by simp only; omega)).trans ?_
    rw [hh]
    congr 1
    exact Fin.ext (by simp only; omega)

end

/-! ## The slots of a point -/

/-- The slot of batch row `g` from whole blocks. -/
def slotOf (w : Vecs) (X : Vec Ideal S2x256x1024 .f32) (C : Vec Ideal S2x8x2048 .f32) (M : Vec Ideal S2x1024x1024 .bf16)
    (g : Fin 2) : Slot :=
  w.slot (fun i => X (ix3 g (i 1) (i 2))) (fun i => C (ix3 g (i 1) (i 2))) (fun i => M (ix3 g (i 1) (i 2)))

/-- What a load of slice `g` reads. -/
theorem ld_slice {d1 d2 : ℕ} {e : EltTy} (V : Vec Ideal ⟨3, ![2, d1, d2]⟩ e) (g : Fin 2) (inb) :
    View.ld V (Rect.unit (s := ⟨3, ![2, d1, d2]⟩) ![g, 0, 0] ![1, d1, d2] inb)
      = fun i : (⟨3, ![1, d1, d2]⟩ : Shape).Idx => V (ix3 g (i 1) (i 2)) := by
  funext i
  refine congrArg V (funext fun k => Fin.ext ?_)
  match k with
  | ⟨0, _⟩ =>
    have h : ((i 0 : Fin _) : ℕ) < 1 := (i 0).isLt
    simp [LoadRect.idx, ix3]
  | ⟨1, _⟩ => simp [LoadRect.idx, ix3]
  | ⟨2, _⟩ => simp [LoadRect.idx, ix3]

theorem slotOf_ld (w : Vecs) (X : Vec Ideal S2x256x1024 .f32) (C : Vec Ideal S2x8x2048 .f32) (M : Vec Ideal S2x1024x1024 .bf16)
    (g : Fin 2) (i1 i2 i3) :
    slotOf w X C M g = w.slot (View.ld X (Rect.unit (s := S2x256x1024) ![g, 0, 0] ![1, 256, 1024] i1))
      (View.ld C (Rect.unit (s := S2x8x2048) ![g, 0, 0] ![1, 8, 2048] i2))
      (View.ld M (Rect.unit (s := S2x1024x1024) ![g, 0, 0] ![1, 1024, 1024] i3)) := by
  rw [slotOf, ← ld_slice X g i1, ← ld_slice C g i2, ← ld_slice M g i3]

variable (m : (ℓ : Loc nD τ sig) → Buf (Elt Ideal) ℓ)

/-- The point's blocks of weights and tables. -/
def vecs (c : Dev nD) (t : Fin cfg0.N) : Vecs where
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t

/-- The slot of batch row `g` of point `t`, after carried rows `C` and matrices `M`. -/
def slotAt (c : Dev nD) (t : Fin cfg0.N) (C : Vec Ideal S2x8x2048 .f32) (M : Vec Ideal S2x1024x1024 .bf16) (g : Fin 2) : Slot :=
  slotOf (vecs m c t) (iblk m c 0 t) C M g

attribute [local irreducible] iblk

/-- The scalar read off a one-entry block. -/
theorem ld_first (V : Vec Ideal S1 .f32) (inb h) :
    View.ld V (Rect.unit (s := S1) ![0] ![1] inb) (Shape.Idx.first h) = V (ix1 0) := by
  refine congrArg V (funext fun k => ?_)
  match k with
  | ⟨0, _⟩ => exact Subsingleton.elim (α := Fin 1) _ _

/-- Rows five to seven of the carried rows, stored slice by slice, read in the second slice, -/
theorem car_one (s : Slot) (i1 i2) (w1 : Vec Ideal S1x3x2048 .f32) (hw : Vec Ideal S1x256x2048 .f32)
    (L : List (View.Piece (Elt Ideal) S2x264x2048 .f32)) (L' : List (View.Piece (Elt Ideal) S2x8x2048 .f32)) (ib)
    (hh : ∀ r j, hw (ix3 0 r j) = s.HB ⟨8 + r, by omega⟩ j)
    (h1 : w1 = k0_pay30 ((View.whole cc0_scratch1).readCov (⟨Rect.unit ![1, 8, 0] ![1, 256, 2048] i2, hw⟩ :: L)
      (Rect.unit (s := S2x264x2048) ![1, 261, 0] ![1, 3, 2048] ib).toLoadRect)) (p : Fin 8) (hp : 5 ≤ (p : ℕ)) (j : Fin 2048) :
    View.canon (⟨Rect.unit (s := S2x8x2048) ![1, 5, 0] ![1, 3, 2048] i1, w1⟩ :: L') (ix3 1 p j) = s.crn p j := by
  refine (canon_hit i1 w1 L' 1 p ⟨p - 5, by omega⟩ j rfl (by simp only; omega)).trans ?_
  rw [h1, pay30_at, buf_rows s (by decide) hw L ib hh (by decide) (by decide), Slot.crn, if_pos hp]
  congr 1
  exact Fin.ext (by simp only; omega)

/-- and in the first. -/
theorem car_zero (s : Slot) (i0 i1 i2) (w1 w0 : Vec Ideal S1x3x2048 .f32) (hw : Vec Ideal S1x256x2048 .f32)
    (L : List (View.Piece (Elt Ideal) S2x264x2048 .f32)) (L' : List (View.Piece (Elt Ideal) S2x8x2048 .f32)) (ib)
    (hh : ∀ r j, hw (ix3 0 r j) = s.HB ⟨8 + r, by omega⟩ j)
    (h0 : w0 = k0_pay11 ((View.whole cc0_scratch1).readCov (⟨Rect.unit ![0, 8, 0] ![1, 256, 2048] i2, hw⟩ :: L)
      (Rect.unit (s := S2x264x2048) ![0, 261, 0] ![1, 3, 2048] ib).toLoadRect)) (p : Fin 8) (hp : 5 ≤ (p : ℕ)) (j : Fin 2048) :
    View.canon (⟨Rect.unit (s := S2x8x2048) ![1, 5, 0] ![1, 3, 2048] i1, w1⟩
      :: ⟨Rect.unit (s := S2x8x2048) ![0, 5, 0] ![1, 3, 2048] i0, w0⟩ :: L') (ix3 0 p j) = s.crn p j := by
  refine (canon_miss i1 w1 _ 0 p j (.inl Nat.zero_ne_one)).trans ?_
  refine (canon_hit i0 w0 L' 0 p ⟨p - 5, by omega⟩ j rfl (by simp only; omega)).trans ?_
  rw [h0, pay11_at, buf_rows s (by decide) hw L ib hh (by decide) (by decide), Slot.crn, if_pos hp]
  congr 1
  exact Fin.ext (by simp only; omega)

/-- The result block after the first point of a pair of batch rows. -/
theorem out_A (c : Dev nD) (t : Fin cfg0.N) (h0 : t.val % 8 = 0) (g : Fin 2) (r : Fin 256) (d : Fin 1024) :
    (outsAt0 m c t.val t.isLt).1 (ix3 g r d) = (slotAt m c t (k0_pay3 (F := Ideal)) (k0_pay2 (F := Ideal)) g).Out r d := by
  rw [outsAt0_A m c t h0]
  frame_open
  simp (disch := decide) only [↓ View.readCov_skip, ↓ View.readCov_cons_toLoadRect, ↓ View.readCov_fill]
  frame_out
  match g with
  | 0 =>
    refine (two_zero (d1 := 256) (d2 := 1024) _ _ _ _ _ r d).trans ?_
    refine Eq.trans ?_ (congrArg (Slot.Out · r d) (slotOf_ld (vecs m c t) _ _ _ _ inb_S2x256x1024_S1x256x1024_0_0_0 inb_S2x8x2048_S1x8x2048_0_0_0
      inb_S2x1024x1024_S1x1024x1024_0_0_0)).symm
    refine pay19_at (w := vecs m c t) ?_ ?_ r d
    · exact pay7_at (vecs m c t) _ _ _
    · refine pay12_at (w := vecs m c t) ?_ ?_ ?_ ?_
      · exact pay6_at (vecs m c t) _ _ _
      · exact buf_all _ (by decide) _ _ _ _ (pay10_at (vecs m c t) _ _ _) (pay8_at (vecs m c t) _ _ _) (by decide)
      · exact buf_all _ (by decide) _ _ _ _ (pay10_at (vecs m c t) _ _ _) (pay8_at (vecs m c t) _ _ _) (by decide)
      · exact buf_all _ (by decide) _ _ _ _ (pay10_at (vecs m c t) _ _ _) (pay8_at (vecs m c t) _ _ _) (by decide)
  | 1 =>
    refine (two_one (d1 := 256) (d2 := 1024) _ _ _ r d).trans ?_
    refine Eq.trans ?_ (congrArg (Slot.Out · r d) (slotOf_ld (vecs m c t) _ _ _ _ inb_S2x256x1024_S1x256x1024_1_0_0 inb_S2x8x2048_S1x8x2048_1_0_0
      inb_S2x1024x1024_S1x1024x1024_1_0_0)).symm
    refine pay1_at (w := vecs m c t) ?_ ?_ ?_ ?_ ?_ r d
    · exact pay24_at (vecs m c t) _ _ _
    · exact pay25_at (vecs m c t) _ _ _
    · exact buf_all _ (by decide) _ _ _ _ (pay27_at (vecs m c t) _ _ _) (pay26_at (vecs m c t) _ _ _) (by decide)
    · exact buf_all _ (by decide) _ _ _ _ (pay27_at (vecs m c t) _ _ _) (pay26_at (vecs m c t) _ _ _) (by decide)
    · exact buf_all _ (by decide) _ _ _ _ (pay27_at (vecs m c t) _ _ _) (pay26_at (vecs m c t) _ _ _) (by decide)

/-- The memory matrices after the first point of a pair of batch rows. -/
theorem mem_A (c : Dev nD) (t : Fin cfg0.N) (h0 : t.val % 8 = 0) (g : Fin 2) (d e : Fin 1024) :
    (outsAt0 m c t.val t.isLt).2.1 (ix3 g d e) = (slotAt m c t (k0_pay3 (F := Ideal)) (k0_pay2 (F := Ideal)) g).Mn d e := by
  rw [outsAt0_A m c t h0]
  frame_open
  simp (disch := decide) only [↓ View.readCov_skip, ↓ View.readCov_cons_toLoadRect, ↓ View.readCov_fill]
  frame_out
  match g with
  | 0 =>
    refine (two_zero (d1 := 1024) (d2 := 1024) _ _ _ _ _ d e).trans ?_
    refine Eq.trans ?_ (congrArg (Slot.Mn · d e) (slotOf_ld (vecs m c t) _ _ _ _ inb_S2x256x1024_S1x256x1024_0_0_0 inb_S2x8x2048_S1x8x2048_0_0_0
      inb_S2x1024x1024_S1x1024x1024_0_0_0)).symm
    refine pay18_at (w := vecs m c t) ?_ ?_ ?_ d e
    · exact pay7_at (vecs m c t) _ _ _
    · refine pay12_at (w := vecs m c t) ?_ ?_ ?_ ?_
      · exact pay6_at (vecs m c t) _ _ _
      · exact buf_all _ (by decide) _ _ _ _ (pay10_at (vecs m c t) _ _ _) (pay8_at (vecs m c t) _ _ _) (by decide)
      · exact buf_all _ (by decide) _ _ _ _ (pay10_at (vecs m c t) _ _ _) (pay8_at (vecs m c t) _ _ _) (by decide)
      · exact buf_all _ (by decide) _ _ _ _ (pay10_at (vecs m c t) _ _ _) (pay8_at (vecs m c t) _ _ _) (by decide)
    · exact ld_first _ _ _
  | 1 =>
    refine (two_one (d1 := 1024) (d2 := 1024) _ _ _ d e).trans ?_
    refine Eq.trans ?_ (congrArg (Slot.Mn · d e) (slotOf_ld (vecs m c t) _ _ _ _ inb_S2x256x1024_S1x256x1024_1_0_0 inb_S2x8x2048_S1x8x2048_1_0_0
      inb_S2x1024x1024_S1x1024x1024_1_0_0)).symm
    refine pay36_at (w := vecs m c t) ?_ ?_ ?_ ?_ ?_ ?_ d e
    · exact pay24_at (vecs m c t) _ _ _
    · exact pay25_at (vecs m c t) _ _ _
    · exact buf_all _ (by decide) _ _ _ _ (pay27_at (vecs m c t) _ _ _) (pay26_at (vecs m c t) _ _ _) (by decide)
    · exact buf_all _ (by decide) _ _ _ _ (pay27_at (vecs m c t) _ _ _) (pay26_at (vecs m c t) _ _ _) (by decide)
    · exact buf_all _ (by decide) _ _ _ _ (pay27_at (vecs m c t) _ _ _) (pay26_at (vecs m c t) _ _ _) (by decide)
    · exact ld_first _ _ _

/-- The carried rows after the first point of a pair of batch rows. -/
theorem car_A (c : Dev nD) (t : Fin cfg0.N) (h0 : t.val % 8 = 0) (g : Fin 2) (p : Fin 8) (hp : 5 ≤ (p : ℕ)) (j : Fin 2048) :
    (outsAt0 m c t.val t.isLt).2.2 (ix3 g p j)
      = (slotAt m c t (k0_pay3 (F := Ideal)) (k0_pay2 (F := Ideal)) g).crn p j := by
  rw [outsAt0_A m c t h0]
  frame_open
  simp (disch := decide) only [↓ View.readCov_skip, ↓ View.readCov_cons_toLoadRect, ↓ View.readCov_fill]
  frame_out
  match g with
  | 0 =>
    refine Eq.trans ?_ (congrArg (Slot.crn · p j) (slotOf_ld (vecs m c t) _ _ _ 0 inb_S2x256x1024_S1x256x1024_0_0_0
      inb_S2x8x2048_S1x8x2048_0_0_0 inb_S2x1024x1024_S1x1024x1024_0_0_0)).symm
    refine car_zero _ _ _ _ _ _ _ _ _ _ ?_ rfl p hp j
    exact pay8_at (vecs m c t) _ _ _
  | 1 =>
    refine Eq.trans ?_ (congrArg (Slot.crn · p j) (slotOf_ld (vecs m c t) _ _ _ 1 inb_S2x256x1024_S1x256x1024_1_0_0
      inb_S2x8x2048_S1x8x2048_1_0_0 inb_S2x1024x1024_S1x1024x1024_1_0_0)).symm
    refine car_one _ _ _ _ _ _ _ _ ?_ rfl p hp j
    exact pay26_at (vecs m c t) _ _ _

/-- The result block after a later point. -/
theorem out_B (c : Dev nD) (t : Fin cfg0.N) (h0 : ¬t.val % 8 = 0) (g : Fin 2) (r : Fin 256) (d : Fin 1024) :
    (outsAt0 m c t.val t.isLt).1 (ix3 g r d) = (slotAt m c t (outsAt0 m c (t.val - 1) (lt_of_le_of_lt (Nat.sub_le t.val 1) t.isLt)).2.2 (outsAt0 m c (t.val - 1) (lt_of_le_of_lt (Nat.sub_le t.val 1) t.isLt)).2.1 g).Out r d := by
  rw [outsAt0_B m c t h0]
  frame_open
  simp (disch := decide) only [↓ View.readCov_skip, ↓ View.readCov_cons_toLoadRect, ↓ View.readCov_fill]
  frame_out
  simp only [read_unread_whole]
  match g with
  | 0 =>
    refine (two_zero (d1 := 256) (d2 := 1024) _ _ _ _ _ r d).trans ?_
    refine Eq.trans ?_ (congrArg (Slot.Out · r d) (slotOf_ld (vecs m c t) _ _ _ _ inb_S2x256x1024_S1x256x1024_0_0_0 inb_S2x8x2048_S1x8x2048_0_0_0
      inb_S2x1024x1024_S1x1024x1024_0_0_0)).symm
    refine pay19_at (w := vecs m c t) ?_ ?_ r d
    · exact pay7_at (vecs m c t) _ _ _
    · refine pay12_at (w := vecs m c t) ?_ ?_ ?_ ?_
      · exact pay6_at (vecs m c t) _ _ _
      · exact buf_all _ (by decide) _ _ _ _ (pay10_at (vecs m c t) _ _ _) (pay8_at (vecs m c t) _ _ _) (by decide)
      · exact buf_all _ (by decide) _ _ _ _ (pay10_at (vecs m c t) _ _ _) (pay8_at (vecs m c t) _ _ _) (by decide)
      · exact buf_all _ (by decide) _ _ _ _ (pay10_at (vecs m c t) _ _ _) (pay8_at (vecs m c t) _ _ _) (by decide)
  | 1 =>
    refine (two_one (d1 := 256) (d2 := 1024) _ _ _ r d).trans ?_
    refine Eq.trans ?_ (congrArg (Slot.Out · r d) (slotOf_ld (vecs m c t) _ _ _ _ inb_S2x256x1024_S1x256x1024_1_0_0 inb_S2x8x2048_S1x8x2048_1_0_0
      inb_S2x1024x1024_S1x1024x1024_1_0_0)).symm
    refine pay1_at (w := vecs m c t) ?_ ?_ ?_ ?_ ?_ r d
    · exact pay24_at (vecs m c t) _ _ _
    · exact pay25_at (vecs m c t) _ _ _
    · exact buf_all _ (by decide) _ _ _ _ (pay27_at (vecs m c t) _ _ _) (pay26_at (vecs m c t) _ _ _) (by decide)
    · exact buf_all _ (by decide) _ _ _ _ (pay27_at (vecs m c t) _ _ _) (pay26_at (vecs m c t) _ _ _) (by decide)
    · exact buf_all _ (by decide) _ _ _ _ (pay27_at (vecs m c t) _ _ _) (pay26_at (vecs m c t) _ _ _) (by decide)

/-- The memory matrices after a later point. -/
theorem mem_B (c : Dev nD) (t : Fin cfg0.N) (h0 : ¬t.val % 8 = 0) (g : Fin 2) (d e : Fin 1024) :
    (outsAt0 m c t.val t.isLt).2.1 (ix3 g d e) = (slotAt m c t (outsAt0 m c (t.val - 1) (lt_of_le_of_lt (Nat.sub_le t.val 1) t.isLt)).2.2 (outsAt0 m c (t.val - 1) (lt_of_le_of_lt (Nat.sub_le t.val 1) t.isLt)).2.1 g).Mn d e := by
  rw [outsAt0_B m c t h0]
  frame_open
  simp (disch := decide) only [↓ View.readCov_skip, ↓ View.readCov_cons_toLoadRect, ↓ View.readCov_fill]
  frame_out
  simp only [read_unread_whole]
  match g with
  | 0 =>
    refine (two_zero (d1 := 1024) (d2 := 1024) _ _ _ _ _ d e).trans ?_
    refine Eq.trans ?_ (congrArg (Slot.Mn · d e) (slotOf_ld (vecs m c t) _ _ _ _ inb_S2x256x1024_S1x256x1024_0_0_0 inb_S2x8x2048_S1x8x2048_0_0_0
      inb_S2x1024x1024_S1x1024x1024_0_0_0)).symm
    refine pay18_at (w := vecs m c t) ?_ ?_ ?_ d e
    · exact pay7_at (vecs m c t) _ _ _
    · refine pay12_at (w := vecs m c t) ?_ ?_ ?_ ?_
      · exact pay6_at (vecs m c t) _ _ _
      · exact buf_all _ (by decide) _ _ _ _ (pay10_at (vecs m c t) _ _ _) (pay8_at (vecs m c t) _ _ _) (by decide)
      · exact buf_all _ (by decide) _ _ _ _ (pay10_at (vecs m c t) _ _ _) (pay8_at (vecs m c t) _ _ _) (by decide)
      · exact buf_all _ (by decide) _ _ _ _ (pay10_at (vecs m c t) _ _ _) (pay8_at (vecs m c t) _ _ _) (by decide)
    · exact ld_first _ _ _
  | 1 =>
    refine (two_one (d1 := 1024) (d2 := 1024) _ _ _ d e).trans ?_
    refine Eq.trans ?_ (congrArg (Slot.Mn · d e) (slotOf_ld (vecs m c t) _ _ _ _ inb_S2x256x1024_S1x256x1024_1_0_0 inb_S2x8x2048_S1x8x2048_1_0_0
      inb_S2x1024x1024_S1x1024x1024_1_0_0)).symm
    refine pay36_at (w := vecs m c t) ?_ ?_ ?_ ?_ ?_ ?_ d e
    · exact pay24_at (vecs m c t) _ _ _
    · exact pay25_at (vecs m c t) _ _ _
    · exact buf_all _ (by decide) _ _ _ _ (pay27_at (vecs m c t) _ _ _) (pay26_at (vecs m c t) _ _ _) (by decide)
    · exact buf_all _ (by decide) _ _ _ _ (pay27_at (vecs m c t) _ _ _) (pay26_at (vecs m c t) _ _ _) (by decide)
    · exact buf_all _ (by decide) _ _ _ _ (pay27_at (vecs m c t) _ _ _) (pay26_at (vecs m c t) _ _ _) (by decide)
    · exact ld_first _ _ _

/-- The carried rows after a later point. -/
theorem car_B (c : Dev nD) (t : Fin cfg0.N) (h0 : ¬t.val % 8 = 0) (g : Fin 2) (p : Fin 8) (hp : 5 ≤ (p : ℕ)) (j : Fin 2048) :
    (outsAt0 m c t.val t.isLt).2.2 (ix3 g p j)
      = (slotAt m c t (outsAt0 m c (t.val - 1) (lt_of_le_of_lt (Nat.sub_le t.val 1) t.isLt)).2.2 (outsAt0 m c (t.val - 1) (lt_of_le_of_lt (Nat.sub_le t.val 1) t.isLt)).2.1 g).crn p j := by
  rw [outsAt0_B m c t h0]
  frame_open
  simp (disch := decide) only [↓ View.readCov_skip, ↓ View.readCov_cons_toLoadRect, ↓ View.readCov_fill]
  frame_out
  rw [View.read_writes_apply_eq_canon]
  rotate_left
  · match g with
    | 0 => exact ⟨_, List.mem_cons_of_mem _ List.mem_cons_self, mem_band inb_S2x8x2048_S1x3x2048_0_5_0 0 p j rfl hp (by omega)⟩
    | 1 => exact ⟨_, List.mem_cons_self, mem_band inb_S2x8x2048_S1x3x2048_1_5_0 1 p j rfl hp (by omega)⟩
  match g with
  | 0 =>
    refine Eq.trans ?_ (congrArg (Slot.crn · p j) (slotOf_ld (vecs m c t) _ _ _ 0 inb_S2x256x1024_S1x256x1024_0_0_0
      inb_S2x8x2048_S1x8x2048_0_0_0 inb_S2x1024x1024_S1x1024x1024_0_0_0)).symm
    refine car_zero _ _ _ _ _ _ _ _ _ _ ?_ rfl p hp j
    exact pay8_at (vecs m c t) _ _ _
  | 1 =>
    refine Eq.trans ?_ (congrArg (Slot.crn · p j) (slotOf_ld (vecs m c t) _ _ _ 1 inb_S2x256x1024_S1x256x1024_1_0_0
      inb_S2x8x2048_S1x8x2048_1_0_0 inb_S2x1024x1024_S1x1024x1024_1_0_0)).symm
    refine car_one _ _ _ _ _ _ _ _ ?_ rfl p hp j
    exact pay26_at (vecs m c t) _ _ _

end Cert.KernelIdeal.Blk
-- ==== Proof.Windows.lean ====
/-
  What the kernel's blocks hold, from the arguments: the weights as its host part lays them out (side by side, transposed,
  reshaped), and the tables of powers of the decay. `fits` says that the slot of batch row `g` of grid point `t` has the
  arguments' entries for chunk `t mod 8` of batch row `2 (t / 8) + g` as its inputs; `gm`, `qs`, `ks`, `gc` read the four
  tables for a finite decay.
-/
module

public import proofs.«01_k».proof.Proof.Blocks
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Win

open Cert.KernelIdeal Cert.KernelIdeal.Gen Cert.KernelIdeal.Blk Cert.Heb

variable (m : (ℓ : Loc nD τ sig) → Buf (Elt Ideal) ℓ)

/-- The arguments' entries, read off device `c`'s memory. -/
def argsOf (c : Dev nD) : Args :=
  Args.of (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (m (c.tc.loc main_arg8)) (m (c.tc.loc main_arg9)) (m (c.tc.loc main_arg10)) (m (c.tc.loc main_arg11))
    (m (c.tc.loc main_arg12)) (m (c.tc.loc main_arg13)) (m (c.tc.loc main_arg14))

/-! ## The host part's results -/

/-- The norm's weights as one row. -/
theorem v38 (c : Dev nD) (k : Fin 1024) : V m c main_v38 (ix2 0 k) = m (c.tc.loc main_arg1) (ix1 k) := by
  simp only [V, hostOps0, hostOps0_1, hostOps0_2, List.flatten_cons, List.flatten_nil, List.append_nil, List.cons_append, List.nil_append]
  entry_read
  pointwise

/-- The up weights, on the left. -/
theorem v33_up (c : Dev nD) (k : Fin 1024) (j : Fin 2048) : V m c main_v33 (ix2 k ⟨j, by omega⟩) = m (c.tc.loc main_arg2) (ix2 k j) := by
  simp only [V, hostOps0, hostOps0_1, hostOps0_2, List.flatten_cons, List.flatten_nil, List.append_nil, List.cons_append, List.nil_append]
  entry_read
  pointwise
/-- The gate weights, on the right. -/
theorem v33_gate (c : Dev nD) (k : Fin 1024) (j : Fin 2048) : V m c main_v33 (ix2 k ⟨2048 + j, by omega⟩) = m (c.tc.loc main_arg4) (ix2 k j) := by
  simp only [V, hostOps0, hostOps0_1, hostOps0_2, List.flatten_cons, List.flatten_nil, List.append_nil, List.cons_append, List.nil_append]
  entry_read
  pointwise

/-- The up bias, on the left. -/
theorem v35_up (c : Dev nD) (j : Fin 2048) : V m c main_v35 (ix2 0 ⟨j, by omega⟩) = m (c.tc.loc main_arg3) (ix1 j) := by
  simp only [V, hostOps0, hostOps0_1, hostOps0_2, List.flatten_cons, List.flatten_nil, List.append_nil, List.cons_append, List.nil_append]
  entry_read
  pointwise

/-- The gate bias, on the right. -/
theorem v35_gate (c : Dev nD) (j : Fin 2048) : V m c main_v35 (ix2 0 ⟨2048 + j, by omega⟩) = m (c.tc.loc main_arg5) (ix1 j) := by
  simp only [V, hostOps0, hostOps0_1, hostOps0_2, List.flatten_cons, List.flatten_nil, List.append_nil, List.cons_append, List.nil_append]
  entry_read
  pointwise

/-- The taps, transposed. -/
theorem v39 (c : Dev nD) (n : Fin 4) (j : Fin 2048) : V m c main_v39 (ix2 n j) = m (c.tc.loc main_arg8) (ix2 j n) := by
  simp only [V, hostOps0, hostOps0_1, hostOps0_2, List.flatten_cons, List.flatten_nil, List.append_nil, List.cons_append, List.nil_append]
  entry_read
  pointwise

/-- The convolution's bias as one row. -/
theorem v40 (c : Dev nD) (j : Fin 2048) : V m c main_v40 (ix2 0 j) = m (c.tc.loc main_arg9) (ix1 j) := by
  simp only [V, hostOps0, hostOps0_1, hostOps0_2, List.flatten_cons, List.flatten_nil, List.append_nil, List.cons_append, List.nil_append]
  entry_read
  pointwise

/-- The down weights. -/
theorem v41 (c : Dev nD) (j : Fin 2048) (d : Fin 1024) : V m c main_v41 (ix2 j d) = m (c.tc.loc main_arg6) (ix2 j d) := by
  simp only [V, hostOps0, hostOps0_1, hostOps0_2, List.flatten_cons, List.flatten_nil, List.append_nil, List.cons_append, List.nil_append]
  entry_read
  pointwise

/-- The down bias as one row. -/
theorem v42 (c : Dev nD) (d : Fin 1024) : V m c main_v42 (ix2 0 d) = m (c.tc.loc main_arg7) (ix1 d) := by
  simp only [V, hostOps0, hostOps0_1, hostOps0_2, List.flatten_cons, List.flatten_nil, List.append_nil, List.cons_append, List.nil_append]
  entry_read
  pointwise

/-- The query weights, on the left. -/
theorem v37_q (c : Dev nD) (d e : Fin 1024) : V m c main_v37 (ix2 d ⟨e, by omega⟩) = m (c.tc.loc main_arg10) (ix2 d e) := by
  simp only [V, hostOps0, hostOps0_1, hostOps0_2, List.flatten_cons, List.flatten_nil, List.append_nil, List.cons_append, List.nil_append]
  entry_read
  pointwise

/-- The key weights, in the middle. -/
theorem v37_k (c : Dev nD) (d e : Fin 1024) : V m c main_v37 (ix2 d ⟨1024 + e, by omega⟩) = m (c.tc.loc main_arg11) (ix2 d e) := by
  simp only [V, hostOps0, hostOps0_1, hostOps0_2, List.flatten_cons, List.flatten_nil, List.append_nil, List.cons_append, List.nil_append]
  entry_read
  pointwise

/-- The value weights, on the right. -/
theorem v37_v (c : Dev nD) (d e : Fin 1024) : V m c main_v37 (ix2 d ⟨2048 + e, by omega⟩) = m (c.tc.loc main_arg12) (ix2 d e) := by
  simp only [V, hostOps0, hostOps0_1, hostOps0_2, List.flatten_cons, List.flatten_nil, List.append_nil, List.cons_append, List.nil_append]
  entry_read
  pointwise
  rw [dif_neg (by omega), dif_neg (by omega)]
  exact congrArg (fun z => m (c.tc.loc main_arg12) (ix2 d z)) (Fin.ext (by simp only; omega))

/-- The output weights. -/
theorem v43 (c : Dev nD) (e d : Fin 1024) : V m c main_v43 (ix2 e d) = m (c.tc.loc main_arg13) (ix2 e d) := by
  simp only [V, hostOps0, hostOps0_1, hostOps0_2, List.flatten_cons, List.flatten_nil, List.append_nil, List.cons_append, List.nil_append]
  entry_read
  pointwise

/-- A small index as a number. -/
theorem ofIdx (n : ℕ) (h : n < 256) : FloatOps.sitofp (F := Ideal) FTy.f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  rfl

/-- The chunk length less one, as a number. -/
theorem ofBits_255 : Ideal.ofBits .f32 1132396544#32 = ((255 : ℝ) : EReal) := by
  simp [Ideal.ofBits, Ideal.ieee, -EReal.coe_mul]; norm_num

section
variable (c : Dev nD) (δ : ℝ) (hd : m (c.tc.loc main_arg14) ix0 = (δ : EReal))
include hd

/-- The masked powers: the decay to the distance, at and under the diagonal. -/
theorem v12 (r t : Fin 256) :
    V m c main_v12 (ix2 r t) = if (t : ℕ) ≤ r then ((δ ^ ((r : ℕ) - t) : ℝ) : EReal) else 0 := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  clean_types
  pointwise
  have hd' : m (c, Proc.tc.devRef main_arg14) ix0 = (δ : EReal) := hd
  rw [hd', ofIdx r r.isLt, ofIdx t t.isLt, ← EReal.coe_sub]
  by_cases h : (t : ℕ) ≤ r
  · have h' : (0 : ℝ) ≤ (r : ℕ) - (t : ℕ) := sub_nonneg.mpr (by exact_mod_cast h)
    rw [if_pos h, if_pos (by exact_mod_cast h'), max_eq_left (by exact_mod_cast h'), ← Nat.cast_sub h, Ideal.pow_coe_coe]
    exact congrArg _ (Real.rpow_natCast δ _)
  · have h' : ¬ (0 : ℝ) ≤ (r : ℕ) - (t : ℕ) := by rw [sub_nonneg]; exact_mod_cast h
    rw [if_neg h, if_neg (by exact_mod_cast h')]

/-- The decay to the row's distance from the chunk before. -/
theorem v17 (r : Fin 256) : V m c main_v17 (ix2 r 0) = ((δ ^ ((r : ℕ) + 1) : ℝ) : EReal) := by
  simp only [V, hostOps0, hostOps0_1, hostOps0_2, List.flatten_cons, List.flatten_nil, List.append_nil, List.cons_append, List.nil_append]
  entry_read
  pointwise
  refine Eq.trans (congrArg (fun z => Ideal.pow z _) hd) ?_
  rw [ofIdx r r.isLt, ← EReal.coe_one, ← EReal.coe_add, Ideal.pow_coe_coe]
  exact congrArg _ (by rw [← Nat.cast_one (R := ℝ), ← Nat.cast_add]; exact Real.rpow_natCast δ _)

/-- The decay to the row's distance from the chunk's end. -/
theorem v22 (r : Fin 256) : V m c main_v22 (ix2 r 0) = ((δ ^ (255 - (r : ℕ)) : ℝ) : EReal) := by
  simp only [V, hostOps0, hostOps0_1, hostOps0_2, List.flatten_cons, List.flatten_nil, List.append_nil, List.cons_append, List.nil_append]
  entry_read
  pointwise
  refine Eq.trans (congrArg (fun z => Ideal.pow z _) hd) ?_
  rw [ofIdx r r.isLt, ofBits_255, ← EReal.coe_sub, Ideal.pow_coe_coe,
    show (255 : ℝ) - (r : ℕ) = ((255 - (r : ℕ) : ℕ) : ℝ) by rw [Nat.cast_sub (by omega)]; norm_num]
  exact congrArg _ (Real.rpow_natCast δ _)

omit hd in
/-- One squaring. -/
def sq (x : EReal) : EReal := x * x

omit hd in
theorem sq_pow (n : ℕ) : sq ((δ ^ n : ℝ) : EReal) = ((δ ^ (2 * n) : ℝ) : EReal) := by
  rw [sq, ← EReal.coe_mul, ← pow_add, two_mul]

/-- The decay to the chunk's length, by eight squarings. -/
theorem v31 : V m c main_v31 (ix1 0) = ((δ ^ 256 : ℝ) : EReal) := by
  have e : V m c main_v31 (ix1 0) = sq (sq (sq (sq (sq (sq (sq (sq (m (c.tc.loc main_arg14) ix0)))))))) := by
    simp only [sq]
    simp only [V, hostOps0, hostOps0_1, hostOps0_2, List.flatten_cons, List.flatten_nil, List.append_nil, List.cons_append, List.nil_append]
    entry_read
    pointwise
  rw [e, hd, ← pow_one δ]
  simp only [sq_pow]
  norm_num

end

/-! ## The blocks -/

/-- The grid point's chunk of `x`. -/
theorem idx0 : ∀ t : Fin grid0.N, win0_0.index t = ![t.val / 8, t.val % 8, 0] := by decide +kernel

theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0] := by decide +kernel

/-- Row `r` of batch row `g` of a point's chunk. -/
theorem x0 (c : Dev nD) (t : Fin cfg0.N) (g : Fin 2) (r : Fin 256) (k : Fin 1024) (b : Fin 4) (s : Fin 2048)
    (hb : (b : ℕ) = 2 * (t.val / 8) + g) (hs : (s : ℕ) = 256 * (t.val % 8) + r) :
    iblk m c 0 t (ix3 g r k) = m (c.tc.loc main_arg0) (ix3 b s k) := by
  blk_ext [iblk, V, idx0 t]

section
variable (c : Dev nD) (t : Fin cfg0.N)

theorem x1 (a : Fin 1) (k : Fin 1024) : iblk m c 1 t (ix2 a k) = V m c main_v38 (ix2 a k) := by
  blk_ext [iblk, idx1 t]

theorem x2 (a : Fin 1024) (k : Fin 4096) : iblk m c 2 t (ix2 a k) = V m c main_v33 (ix2 a k) := by
  blk_ext [iblk, idx2 t]

theorem x3 (a : Fin 1) (k : Fin 4096) : iblk m c 3 t (ix2 a k) = V m c main_v35 (ix2 a k) := by
  blk_ext [iblk, idx3 t]

theorem x4 (a : Fin 4) (k : Fin 2048) : iblk m c 4 t (ix2 a k) = V m c main_v39 (ix2 a k) := by
  blk_ext [iblk, idx4 t]

theorem x5 (a : Fin 1) (k : Fin 2048) : iblk m c 5 t (ix2 a k) = V m c main_v40 (ix2 a k) := by
  blk_ext [iblk, idx5 t]

theorem x6 (a : Fin 2048) (k : Fin 1024) : iblk m c 6 t (ix2 a k) = V m c main_v41 (ix2 a k) := by
  blk_ext [iblk, idx6 t]

theorem x7 (a : Fin 1) (k : Fin 1024) : iblk m c 7 t (ix2 a k) = V m c main_v42 (ix2 a k) := by
  blk_ext [iblk, idx7 t]

theorem x8 (a : Fin 1024) (k : Fin 3072) : iblk m c 8 t (ix2 a k) = V m c main_v37 (ix2 a k) := by
  blk_ext [iblk, idx8 t]

theorem x9 (a : Fin 1024) (k : Fin 1024) : iblk m c 9 t (ix2 a k) = V m c main_v43 (ix2 a k) := by
  blk_ext [iblk, idx9 t]

theorem x10 (a : Fin 256) (k : Fin 256) : iblk m c 10 t (ix2 a k) = V m c main_v12 (ix2 a k) := by
  blk_ext [iblk, idx10 t]

theorem x11 (a : Fin 256) (k : Fin 1) : iblk m c 11 t (ix2 a k) = V m c main_v17 (ix2 a k) := by
  blk_ext [iblk, idx11 t]

theorem x12 (a : Fin 256) (k : Fin 1) : iblk m c 12 t (ix2 a k) = V m c main_v22 (ix2 a k) := by
  blk_ext [iblk, idx12 t]

theorem x13 (a : Fin 1) : iblk m c 13 t (ix1 a) = V m c main_v31 (ix1 a) := by
  blk_ext [iblk, idx13 t]

attribute [local irreducible] iblk

/-- The slot's inputs are the arguments' entries for its chunk of its batch row. -/
theorem fits (C : Vec Ideal S2x8x2048 .f32) (M : Vec Ideal S2x1024x1024 .bf16) (g : Fin 2) (b : Fin 4) (i : Fin 8)
    (hb : (b : ℕ) = 2 * (t.val / 8) + g) (hi : (i : ℕ) = t.val % 8)
    (hC : ∀ (p : Fin 8) j, 5 ≤ (p : ℕ) → C (ix3 g p j) = (argsOf m c).hP b (256 * i + p - 5) j) :
    (slotAt m c t C M g).Fits (argsOf m c) b i where
  X r k := x0 m c t g r k b ⟨256 * i + r, by omega⟩ hb (by simp only; omega)
  nw k := (x1 m c t 0 k).trans (v38 m c k)
  uw k j := (x2 m c t k _).trans (v33_up m c k j)
  gw k j := (x2 m c t k _).trans (v33_gate m c k j)
  ub j := (x3 m c t 0 _).trans (v35_up m c j)
  gb j := (x3 m c t 0 _).trans (v35_gate m c j)
  cw n j := (x4 m c t n j).trans (v39 m c n j)
  cb j := (x5 m c t 0 j).trans (v40 m c j)
  dw j d := (x6 m c t j d).trans (v41 m c j d)
  db d := (x7 m c t 0 d).trans (v42 m c d)
  wq d e := (x8 m c t d _).trans (v37_q m c d e)
  wk d e := (x8 m c t d _).trans (v37_k m c d e)
  wv d e := (x8 m c t d _).trans (v37_v m c d e)
  wo e d := (x9 m c t e d).trans (v43 m c e d)
  cr p j hp := hC p j hp

variable (C : Vec Ideal S2x8x2048 .f32) (M : Vec Ideal S2x1024x1024 .bf16) (g : Fin 2)
  (δ : ℝ) (hd : (argsOf m c).dec = (δ : EReal))
include hd

/-- The slot's masked powers. -/
theorem gm (r s : Fin 256) : (slotAt m c t C M g).gm r s = if (s : ℕ) ≤ r then ((δ ^ ((r : ℕ) - s) : ℝ) : EReal) else 0 :=
  (x10 m c t r s).trans (v12 m c δ hd r s)

/-- The slot's powers for the memory's read. -/
theorem qs (r : Fin 256) : (slotAt m c t C M g).qs r = ((δ ^ ((r : ℕ) + 1) : ℝ) : EReal) :=
  (x11 m c t r 0).trans (v17 m c δ hd r)

/-- The slot's powers for the memory's update. -/
theorem ks (r : Fin 256) : (slotAt m c t C M g).ks r = ((δ ^ (255 - (r : ℕ)) : ℝ) : EReal) :=
  (x12 m c t r 0).trans (v22 m c δ hd r)

/-- The slot's power for the memory matrix. -/
theorem gc : (slotAt m c t C M g).gc = ((δ ^ 256 : ℝ) : EReal) :=
  (x13 m c t 0).trans (v31 m c δ hd)

end

end Cert.KernelIdeal.Win
-- ==== Proof.Finite.lean ====
/-
  Which entries are real numbers. For finite weights and decay the queries, keys and values are real whatever `x` is: a row
  of `x` that holds an infinity has an infinite mean square, whose reciprocal root is zero, so its normed row is zero.
-/
module

public import proofs.«01_k».proof.Proof.Spec

@[expose] public section

noncomputable section

open Idealize.ShloMosaic

namespace Cert.Heb

/-- `x` is a real number. -/
def IsR (x : EReal) : Prop := ∃ r : ℝ, x = r

namespace IsR

variable {x y : EReal}

theorem of_ne (h : x ≠ ⊥) (h' : x ≠ ⊤) : IsR x := ⟨x.toReal, (EReal.coe_toReal h' h).symm⟩

theorem zero : IsR 0 := ⟨0, EReal.coe_zero.symm⟩

theorem add (hx : IsR x) (hy : IsR y) : IsR (x + y) := by
  obtain ⟨r, rfl⟩ := hx; obtain ⟨s, rfl⟩ := hy
  exact ⟨r + s, (EReal.coe_add r s).symm⟩

theorem mul (hx : IsR x) (hy : IsR y) : IsR (x * y) := by
  obtain ⟨r, rfl⟩ := hx; obtain ⟨s, rfl⟩ := hy
  exact ⟨r * s, (EReal.coe_mul r s).symm⟩

theorem sum {ι : Type} (S : Finset ι) {f : ι → EReal} (h : ∀ i, IsR (f i)) : IsR (∑ i ∈ S, f i) :=
  Finset.sum_induction f IsR (fun _ _ => add) zero fun i _ => h i

theorem coe_toReal (h : IsR x) : ((x.toReal : ℝ) : EReal) = x := by
  obtain ⟨r, rfl⟩ := h; rw [EReal.toReal_coe]

end IsR

/-- Sums of reals, read in the extended reals. -/
theorem coe_sum {ι : Type} (S : Finset ι) (f : ι → ℝ) : ((∑ i ∈ S, f i : ℝ) : EReal) = ∑ i ∈ S, (f i : EReal) :=
  map_sum (⟨⟨Real.toEReal, EReal.coe_zero⟩, EReal.coe_add⟩ : ℝ →+ EReal) f S

/-- `z · logistic z` of a real is real. -/
theorem silu_real {z : EReal} (h : IsR z) : IsR (silu z) := by
  obtain ⟨r, rfl⟩ := h
  refine IsR.mul ⟨r, rfl⟩ ?_
  rw [Ideal.logistic, ← EReal.coe_neg, Ideal.exp_coe, ← EReal.coe_one, ← EReal.coe_add,
    Ideal.div_coe (by positivity)]
  exact ⟨_, (EReal.coe_mul _ _).symm⟩

theorem ofBits_1024 : Ideal.ofBits .f32 0x44800000#32 = ((1024 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The square of an infinity is `⊤`; every square is at least zero. -/
theorem sq_nonneg' (x : EReal) : 0 ≤ x * x := by
  induction x with
  | bot => simp
  | top => simp
  | coe r => rw [← EReal.coe_mul]; exact_mod_cast mul_self_nonneg r

/-- A sum of squares with an infinite term is `⊤`. -/
theorem sum_sq_top (f : Fin 1024 → EReal) (k : Fin 1024) (h : f k * f k = ⊤) : ∑ k, f k * f k = ⊤ := by
  have := Finset.single_le_sum (f := fun k => f k * f k) (s := Finset.univ) (fun i _ => sq_nonneg' (f i)) (Finset.mem_univ k)
  simp only [h] at this
  exact top_le_iff.mp this

/-- The normed row is real for real weights, whatever the row is. -/
theorem nrm_real (xr w : Fin 1024 → EReal) (hw : ∀ k, IsR (w k)) (d : Fin 1024) : IsR (nrm xr w d) := by
  obtain ⟨e, he, hE⟩ := ofBits_eps
  refine IsR.mul ?_ (hw d)
  rw [ofBits_1024, hE, Ideal.div_coe (by norm_num)]
  by_cases hx : ∀ k, IsR (xr k)
  · choose r hr using hx
    have hs : ∑ k, xr k * xr k = ((∑ k, r k * r k : ℝ) : EReal) := by
      rw [coe_sum]; exact Finset.sum_congr rfl fun k _ => by rw [hr k, EReal.coe_mul]
    have hp : 0 < (∑ k, r k * r k) * (1 / 1024) + e :=
      add_pos_of_nonneg_of_pos (mul_nonneg (Finset.sum_nonneg fun k _ => mul_self_nonneg _) (by norm_num)) he
    rw [hs, ← EReal.coe_mul, ← EReal.coe_add, Ideal.rsqrt_coe, if_neg hp.not_gt, if_neg hp.ne', hr d]
    exact IsR.mul ⟨_, rfl⟩ ⟨_, rfl⟩
  · obtain ⟨k, hk⟩ := not_forall.mp hx
    have ht : xr k * xr k = ⊤ := by
      by_cases hb : xr k = ⊥
      · rw [hb]; rfl
      · by_cases hT : xr k = ⊤
        · rw [hT]; rfl
        · exact absurd (IsR.of_ne hb hT) hk
    rw [sum_sq_top xr k ht, EReal.top_mul_coe_of_pos (by norm_num), EReal.top_add_coe, Ideal.rsqrt_top, mul_zero]
    exact IsR.zero

/-- Every argument but `x` and the output weights is real. -/
structure Args.Real (a : Args) : Prop where
  nw : ∀ k, IsR (a.nw k)
  uw : ∀ k j, IsR (a.uw k j)
  ub : ∀ j, IsR (a.ub j)
  gw : ∀ k j, IsR (a.gw k j)
  gb : ∀ j, IsR (a.gb j)
  dw : ∀ j d, IsR (a.dw j d)
  db : ∀ d, IsR (a.db d)
  cw : ∀ j n, IsR (a.cw j n)
  cb : ∀ j, IsR (a.cb j)
  wq : ∀ d e, IsR (a.wq d e)
  wk : ∀ d e, IsR (a.wk d e)
  wv : ∀ d e, IsR (a.wv d e)
  dec : IsR a.dec

namespace Args.Real

variable {a : Args} (h : a.Real) (b : Fin 4)
include h

theorem hT (t j : Fin 2048) : IsR (a.hT b t j) :=
  (IsR.sum _ fun k => (nrm_real _ _ h.nw k).mul (h.uw k j)).add (h.ub j)

theorem gT (t j : Fin 2048) : IsR (a.gT b t j) :=
  (IsR.sum _ fun k => (nrm_real _ _ h.nw k).mul (h.gw k j)).add (h.gb j)

theorem hP (p : ℕ) (j : Fin 2048) : IsR (a.hP b p j) := by
  unfold Args.hP
  split
  · exact h.hT b _ j
  · exact IsR.zero

theorem cT (t j : Fin 2048) : IsR (a.cT b t j) :=
  (((((h.hP b _ j).mul (h.cw j 0)).add ((h.hP b _ j).mul (h.cw j 1))).add ((h.hP b _ j).mul (h.cw j 2))).add
    ((h.hP b _ j).mul (h.cw j 3))).add (h.cb j)

theorem uT (t : Fin 2048) (d : Fin 1024) : IsR (a.uT b t d) :=
  (IsR.sum _ fun j => ((silu_real (h.cT b t j)).mul (silu_real (h.gT b t j))).mul (h.dw j d)).add (h.db d)

/-- The queries are real. -/
theorem qT (t : Fin 2048) (e : Fin 1024) : IsR (a.qT b t e) := IsR.sum _ fun d => (h.uT b t d).mul (h.wq d e)

/-- The keys are real. -/
theorem kT (t : Fin 2048) (e : Fin 1024) : IsR (a.kT b t e) := IsR.sum _ fun d => (h.uT b t d).mul (h.wk d e)

/-- The values are real. -/
theorem vT (t : Fin 2048) (e : Fin 1024) : IsR (a.vT b t e) := IsR.sum _ fun d => (h.uT b t d).mul (h.wv d e)

end Args.Real

end Cert.Heb
-- ==== Proof.Scan.lean ====
/-
  The memory's recurrence over the real numbers, and its chunked form. `mem` is the memory matrix after `t` steps and
  `rd t` what the query of step `t` reads off it. `mem_add` gives the matrix `n` steps on as the decayed matrix plus the
  decayed outer products of the steps between; `rd_add` splits a read at the start of a chunk. `Slot.mn_eq` and
  `Slot.y_eq` say that a slot with the chunk's keys, values, queries and powers of the decay computes just these.
-/
module

public import proofs.«01_k».proof.Proof.Finite

@[expose] public section

noncomputable section

open Idealize.ShloMosaic

namespace Cert.Heb

/-- Queries, keys and values of one batch row over time, and the decay. -/
structure Seq where
  q : ℕ → Fin 1024 → ℝ
  k : ℕ → Fin 1024 → ℝ
  v : ℕ → Fin 1024 → ℝ
  δ : ℝ

namespace Seq

variable (z : Seq)

/-- The memory matrix after `t` steps. -/
def mem : ℕ → Fin 1024 → Fin 1024 → ℝ
  | 0 => fun _ _ => 0
  | t + 1 => fun d e => z.δ * mem t d e + z.k t d * z.v t e

/-- What step `t` reads. -/
def rd (t : ℕ) (e : Fin 1024) : ℝ := ∑ d, z.q t d * z.mem (t + 1) d e

/-- The memory `n` steps after step `T`. -/
theorem mem_add (T n : ℕ) (d e : Fin 1024) :
    z.mem (T + n) d e = z.δ ^ n * z.mem T d e + ∑ s ∈ Finset.range n, z.δ ^ (n - 1 - s) * (z.k (T + s) d * z.v (T + s) e) := by
  induction n with
  | zero => simp
  | succ n ih =>
    rw [← Nat.add_assoc, show z.mem (T + n + 1) d e = z.δ * z.mem (T + n) d e + z.k (T + n) d * z.v (T + n) e from rfl, ih, Finset.sum_range_succ, mul_add, Finset.mul_sum]
    have h : ∀ s ∈ Finset.range n, z.δ * (z.δ ^ (n - 1 - s) * (z.k (T + s) d * z.v (T + s) e))
        = z.δ ^ (n + 1 - 1 - s) * (z.k (T + s) d * z.v (T + s) e) := fun s hs => by
      have hs := Finset.mem_range.mp hs
      rw [← mul_assoc, ← pow_succ', show n - 1 - s + 1 = n + 1 - 1 - s by omega]
    rw [Finset.sum_congr rfl h, show n + 1 - 1 - n = 0 by omega, pow_succ]
    ring

/-- A read within a chunk: the chunk's own steps, and the memory at the chunk's start. -/
theorem rd_add (T r : ℕ) (e : Fin 1024) :
    z.rd (T + r) e = (∑ s ∈ Finset.range (r + 1), (∑ d, z.q (T + r) d * z.k (T + s) d) * z.δ ^ (r - s) * z.v (T + s) e)
      + ∑ d, z.q (T + r) d * z.δ ^ (r + 1) * z.mem T d e := by
  have h : ∀ d, z.q (T + r) d * z.mem (T + r + 1) d e
      = (∑ s ∈ Finset.range (r + 1), z.q (T + r) d * z.k (T + s) d * z.δ ^ (r - s) * z.v (T + s) e)
        + z.q (T + r) d * z.δ ^ (r + 1) * z.mem T d e := fun d => by
    rw [Nat.add_assoc, z.mem_add, mul_add, Finset.mul_sum, add_comm, Nat.add_sub_cancel]
    congr 1
    · exact Finset.sum_congr rfl fun s _ => by ring
    · ring
  rw [rd, Finset.sum_congr rfl fun d _ => h d, Finset.sum_add_distrib, Finset.sum_comm]
  congr 1
  exact Finset.sum_congr rfl fun s _ => by rw [Finset.sum_mul, Finset.sum_mul]

end Seq

/-! ## One slot against the recurrence -/

/-- The slot's queries, keys, values, memory and powers are the sequence's for the chunk that starts at step `T`. -/
structure Slot.Has (s : Slot) (z : Seq) (T : ℕ) : Prop where
  q : ∀ r d, s.Q r d = ((z.q (T + (r : ℕ)) d : ℝ) : EReal)
  k : ∀ r d, s.K r d = ((z.k (T + (r : ℕ)) d : ℝ) : EReal)
  v : ∀ r e, s.V r e = ((z.v (T + (r : ℕ)) e : ℝ) : EReal)
  M : ∀ d e, s.M d e = ((z.mem T d e : ℝ) : EReal)
  gm : ∀ r t : Fin 256, s.gm r t = if (t : ℕ) ≤ r then ((z.δ ^ ((r : ℕ) - t) : ℝ) : EReal) else 0
  qs : ∀ r : Fin 256, s.qs r = ((z.δ ^ ((r : ℕ) + 1) : ℝ) : EReal)
  ks : ∀ r : Fin 256, s.ks r = ((z.δ ^ (255 - (r : ℕ)) : ℝ) : EReal)
  gc : s.gc = ((z.δ ^ 256 : ℝ) : EReal)

namespace Slot.Has

variable {s : Slot} {z : Seq} {T : ℕ} (h : s.Has z T)
include h

/-- The slot's new memory is the memory one chunk on. -/
theorem mn (d e : Fin 1024) : s.Mn d e = ((z.mem (T + 256) d e : ℝ) : EReal) := by
  have hs : ∀ t : Fin 256, s.K t d * s.ks t * s.V t e
      = ((z.δ ^ (256 - 1 - (t : ℕ)) * (z.k (T + (t : ℕ)) d * z.v (T + (t : ℕ)) e) : ℝ) : EReal) := fun t => by
    rw [h.k, h.ks, h.v, ← EReal.coe_mul, ← EReal.coe_mul]
    exact congrArg _ (by ring)
  rw [Slot.Mn, h.gc, h.M, Finset.sum_congr rfl fun t _ => hs t, ← coe_sum, ← EReal.coe_mul, ← EReal.coe_add, z.mem_add,
    Finset.sum_range]

/-- The slot's reads are the sequence's. -/
theorem y (r : Fin 256) (e : Fin 1024) : s.Y r e = ((z.rd (T + (r : ℕ)) e : ℝ) : EReal) := by
  have h1 : ∀ t : Fin 256, (∑ d, s.Q r d * s.K t d) * s.gm r t * s.V t e
      = (((if (t : ℕ) ≤ r then (∑ d, z.q (T + (r : ℕ)) d * z.k (T + (t : ℕ)) d) * z.δ ^ ((r : ℕ) - t) * z.v (T + (t : ℕ)) e
          else 0 : ℝ)) : EReal) := fun t => by
    have hq : ∑ d, s.Q r d * s.K t d = ((∑ d, z.q (T + (r : ℕ)) d * z.k (T + (t : ℕ)) d : ℝ) : EReal) := by
      rw [coe_sum]; exact Finset.sum_congr rfl fun d _ => by rw [h.q, h.k, EReal.coe_mul]
    rw [hq, h.gm, h.v]
    split
    · rw [← EReal.coe_mul, ← EReal.coe_mul]
    · rw [mul_zero, zero_mul, EReal.coe_zero]
  have h2 : ∀ d, s.Q r d * s.qs r * s.M d e = ((z.q (T + (r : ℕ)) d * z.δ ^ ((r : ℕ) + 1) * z.mem T d e : ℝ) : EReal) :=
    fun d => by rw [h.q, h.qs, h.M, ← EReal.coe_mul, ← EReal.coe_mul]
  rw [Slot.Y, Finset.sum_congr rfl fun t _ => h1 t, Finset.sum_congr rfl fun d _ => h2 d, ← coe_sum, ← coe_sum,
    ← EReal.coe_add, z.rd_add]
  congr 2
  rw [Finset.sum_fin_eq_sum_range, ← Finset.sum_filter_add_sum_filter_not (Finset.range 256) (fun t => t ≤ (r : ℕ)),
    Finset.sum_eq_zero (s := (Finset.range 256).filter fun t => ¬ t ≤ (r : ℕ)), add_zero]
  · have hf : (Finset.range 256).filter (fun t => t ≤ (r : ℕ)) = Finset.range (r + 1) := by
      ext t; simp only [Finset.mem_filter, Finset.mem_range]; omega
    rw [hf]
    refine Finset.sum_congr rfl fun t ht => ?_
    have ht := Finset.mem_range.mp ht
    rw [dif_pos (show t < 256 by omega), if_pos (show t ≤ (r : ℕ) by omega)]
  · intro t ht
    have ht := Finset.mem_filter.mp ht
    rw [dif_pos (Finset.mem_range.mp ht.1), if_neg ht.2]

end Slot.Has

/-! ## The layer's sequences -/

/-- The layer's queries, keys and values of batch row `b` over time, as reals; zero past the last step. -/
def Args.seq (a : Args) (b : Fin 4) : Seq where
  q t d := if h : t < 2048 then (a.qT b ⟨t, h⟩ d).toReal else 0
  k t d := if h : t < 2048 then (a.kT b ⟨t, h⟩ d).toReal else 0
  v t e := if h : t < 2048 then (a.vT b ⟨t, h⟩ e).toReal else 0
  δ := a.dec.toReal

/-- The layer's result for real weights: `x` plus the projected reads. -/
def Args.out (a : Args) (b : Fin 4) (t : Fin 2048) (d : Fin 1024) : EReal :=
  a.x b t d + ∑ e, (((a.seq b).rd t e : ℝ) : EReal) * a.wo e d

namespace Args.Real

variable {a : Args} (h : a.Real) (b : Fin 4)
include h

theorem seq_q (t : Fin 2048) (d : Fin 1024) : a.qT b t d = (((a.seq b).q t d : ℝ) : EReal) := by
  simp only [Args.seq]; rw [dif_pos t.isLt, (h.qT b t d).coe_toReal]

theorem seq_k (t : Fin 2048) (d : Fin 1024) : a.kT b t d = (((a.seq b).k t d : ℝ) : EReal) := by
  simp only [Args.seq]; rw [dif_pos t.isLt, (h.kT b t d).coe_toReal]

theorem seq_v (t : Fin 2048) (e : Fin 1024) : a.vT b t e = (((a.seq b).v t e : ℝ) : EReal) := by
  simp only [Args.seq]; rw [dif_pos t.isLt, (h.vT b t e).coe_toReal]

theorem seq_dec : a.dec = (((a.seq b).δ : ℝ) : EReal) := h.dec.coe_toReal.symm

end Args.Real

end Cert.Heb
-- ==== Proof.Points.lean ====
/-
  What every grid point leaves, by induction over the eight points of a pair of batch rows: the carried rows are the rows of
  the padded `h` that the next chunk needs, the memory matrices are the recurrence's after the chunk, and the block of the
  result is the layer's (`state`, `out_at`).
-/
module

public import proofs.«01_k».proof.Proof.Windows
public import proofs.«01_k».proof.Proof.Scan

@[expose] public section

set_option maxRecDepth 16384

noncomputable section

open Idealize.ShloMosaic Idealize.ShloMosaic.TcCoe Idealize.SL.Sem
open Idealize.ShloMosaic.Pipeline (Dat)

namespace Cert.KernelIdeal.Pts

open Cert.KernelIdeal Cert.KernelIdeal.Gen Cert.KernelIdeal.Blk Cert.KernelIdeal.Win Cert.Heb

variable (m : (ℓ : Loc nD τ sig) → Buf (Elt Ideal) ℓ) (c : Dev nD)

/-- The carried rows start as zeros. -/
theorem pay3_at (g : Fin 2) (p : Fin 8) (j : Fin 2048) : k0_pay3 (F := Ideal) (ix3 g p j) = 0 := by
  pointwise [k0_pay3]

/-- The memory matrices start as zeros. -/
theorem pay2_at (g : Fin 2) (d e : Fin 1024) : k0_pay2 (F := Ideal) (ix3 g d e) = 0 := by
  pointwise [k0_pay2]

attribute [local irreducible] iblk

section
variable (hr : (argsOf m c).Real) (t : Fin cfg0.N) (C : Vec Ideal S2x8x2048 .f32) (M : Vec Ideal S2x1024x1024 .bf16)
  (g : Fin 2) (b : Fin 4) (i : Fin 8) (hb : (b : ℕ) = 2 * (t.val / 8) + g) (hi : (i : ℕ) = t.val % 8)
  (hC : ∀ (p : Fin 8) j, 5 ≤ (p : ℕ) → C (ix3 g p j) = (argsOf m c).hP b (256 * i + p - 5) j)
  (hM : ∀ d e, M (ix3 g d e) = ((((argsOf m c).seq b).mem (256 * i) d e : ℝ) : EReal))
include hr hb hi hC hM

/-- A slot whose carried rows and memory matrix are the layer's at the chunk's start has the layer's sequences. -/
theorem has : (slotAt m c t C M g).Has ((argsOf m c).seq b) (256 * i) := by
  have f := fits m c t C M g b i hb hi hC
  have hd := hr.seq_dec b
  exact
    { q := fun r d => (f.q r d).trans (hr.seq_q b _ d)
      k := fun r d => (f.k r d).trans (hr.seq_k b _ d)
      v := fun r e => (f.v r e).trans (hr.seq_v b _ e)
      M := hM
      gm := fun r s => gm m c t C M g _ hd r s
      qs := fun r => qs m c t C M g _ hd r
      ks := fun r => ks m c t C M g _ hd r
      gc := gc m c t C M g _ hd }

/-- Its block of the result is the layer's. -/
theorem slot_out (r : Fin 256) (d : Fin 1024) :
    (slotAt m c t C M g).Out r d = (argsOf m c).out b ⟨256 * i + r, by omega⟩ d := by
  have f := fits m c t C M g b i hb hi hC
  have h := has m c hr t C M g b i hb hi hC hM
  rw [Slot.Out, Args.out, f.X]
  congr 1
  exact Finset.sum_congr rfl fun e _ => by rw [h.y, f.wo]

/-- Its memory matrix is the recurrence's one chunk on. -/
theorem slot_mem (d e : Fin 1024) :
    (slotAt m c t C M g).Mn d e = ((((argsOf m c).seq b).mem (256 * (i + 1)) d e : ℝ) : EReal) := by
  rw [(has m c hr t C M g b i hb hi hC hM).mn]; rfl

omit hr hM in
/-- Its carried rows are those the next chunk needs. -/
theorem slot_car (p : Fin 8) (hp : 5 ≤ (p : ℕ)) (j : Fin 2048) :
    (slotAt m c t C M g).crn p j = (argsOf m c).hP b (256 * (i + 1) + p - 5) j :=
  (fits m c t C M g b i hb hi hC).crn p j hp

end

/-- The carried rows and the memory matrices are the layer's at the start of chunk `i` of the pair of batch rows `q`. -/
def Good (C : Vec Ideal S2x8x2048 .f32) (M : Vec Ideal S2x1024x1024 .bf16) (q i : ℕ) : Prop :=
  ∀ (g : Fin 2) (b : Fin 4), (b : ℕ) = 2 * q + g →
    (∀ (p : Fin 8) j, 5 ≤ (p : ℕ) → C (ix3 g p j) = (argsOf m c).hP b (256 * i + p - 5) j)
    ∧ ∀ d e, M (ix3 g d e) = ((((argsOf m c).seq b).mem (256 * i) d e : ℝ) : EReal)

/-- Zeros are right before the first chunk. -/
theorem good_zero (q : ℕ) : Good m c (k0_pay3 (F := Ideal)) (k0_pay2 (F := Ideal)) q 0 := by
  intro g b _
  refine ⟨fun p j hp => ?_, fun d e => ?_⟩
  · rw [pay3_at, Args.hP, dif_neg (by omega)]
  · rw [pay2_at]; exact EReal.coe_zero.symm

variable (hr : (argsOf m c).Real)
include hr

/-- After point `n` they are right for the next chunk. -/
theorem state : ∀ (n : ℕ) (hn : n < cfg0.N), Good m c (outsAt0 m c n hn).2.2 (outsAt0 m c n hn).2.1 (n / 8) (n % 8 + 1) := by
  intro n
  induction n with
  | zero =>
    intro hn g b hb
    have z := good_zero m c (0 / 8) g b hb
    exact ⟨fun p j hp => (car_A m c ⟨0, hn⟩ rfl g p hp j).trans (slot_car m c ⟨0, hn⟩ _ _ g b 0 hb rfl z.1 p hp j),
      fun d e => (mem_A m c ⟨0, hn⟩ rfl g d e).trans (slot_mem m c hr ⟨0, hn⟩ _ _ g b 0 hb rfl z.1 z.2 d e)⟩
  | succ n ih =>
    intro hn g b hb
    by_cases h0 : (n + 1) % 8 = 0
    · have z := good_zero m c ((n + 1) / 8) g b hb
      rw [h0]
      exact ⟨fun p j hp => (car_A m c ⟨n + 1, hn⟩ h0 g p hp j).trans (slot_car m c ⟨n + 1, hn⟩ _ _ g b 0 hb h0.symm z.1 p hp j),
        fun d e => (mem_A m c ⟨n + 1, hn⟩ h0 g d e).trans (slot_mem m c hr ⟨n + 1, hn⟩ _ _ g b 0 hb h0.symm z.1 z.2 d e)⟩
    · have z := ih (by omega) g b (by omega)
      rw [show n % 8 + 1 = (n + 1) % 8 by omega] at z
      exact ⟨fun p j hp => (car_B m c ⟨n + 1, hn⟩ h0 g p hp j).trans
          (slot_car m c ⟨n + 1, hn⟩ _ _ g b ⟨(n + 1) % 8, by omega⟩ hb rfl z.1 p hp j),
        fun d e => (mem_B m c ⟨n + 1, hn⟩ h0 g d e).trans
          (slot_mem m c hr ⟨n + 1, hn⟩ _ _ g b ⟨(n + 1) % 8, by omega⟩ hb rfl z.1 z.2 d e)⟩

/-- The block of the result that point `n` leaves is the layer's. -/
theorem out_at (n : ℕ) (hn : n < cfg0.N) (g : Fin 2) (b : Fin 4) (hb : (b : ℕ) = 2 * (n / 8) + g) (r : Fin 256) (d : Fin 1024)
    (s : Fin 2048) (hs : (s : ℕ) = 256 * (n % 8) + r) :
    (outsAt0 m c n hn).1 (ix3 g r d) = (argsOf m c).out b s d := by
  by_cases h0 : n % 8 = 0
  · have z := good_zero m c (n / 8) g b hb
    refine (out_A m c ⟨n, hn⟩ h0 g r d).trans ((slot_out m c hr ⟨n, hn⟩ _ _ g b 0 hb h0.symm z.1 z.2 r d).trans ?_)
    exact congrArg (fun s => (argsOf m c).out b s d) (Fin.ext (by simp only [Fin.val_zero]; omega))
  · have z := state m c hr (n - 1) (by omega) g b (by omega)
    rw [show (n - 1) % 8 + 1 = n % 8 by omega] at z
    refine (out_B m c ⟨n, hn⟩ h0 g r d).trans
      ((slot_out m c hr ⟨n, hn⟩ _ _ g b ⟨n % 8, by omega⟩ hb rfl z.1 z.2 r d).trans ?_)
    exact congrArg (fun s => (argsOf m c).out b s d) (Fin.ext hs.symm)

end Cert.KernelIdeal.Pts
-- ==== Proof.Result.lean ====
/-
  The kernel's result array: entry `(b, t, d)` is written by the point of `b`'s pair of rows and `t`'s chunk, and is the
  layer's.
-/
module

public import proofs.«01_k».proof.Proof.Points

@[expose] public section

set_option maxRecDepth 16384

noncomputable section

open Idealize.ShloMosaic Idealize.ShloMosaic.TcCoe Idealize.SL.Sem

namespace Cert.KernelIdeal.Result

open Cert.KernelIdeal Cert.KernelIdeal.Gen Cert.KernelIdeal.Value Cert.KernelIdeal.Win Cert.KernelIdeal.Pts Cert.Heb

variable (m : (ℓ : Loc nD τ sig) → Buf (Elt Ideal) ℓ) (c : Dev nD)

theorem result_at (hr : (argsOf m c).Real) (b : Fin 4) (t : Fin 2048) (d : Fin 1024) :
    G14 m c (ix3 b t d) = (argsOf m c).out b t d := by
  have hp : pt14Of (ix3 b t d) = 8 * ((b : ℕ) / 2) + (t : ℕ) / 256 := by
    show 8 * ((b : ℕ) / 2 - 0) + 1 * ((t : ℕ) / 256 - 0) + 1 * ((d : ℕ) / 1024 - 0) = _
    omega
  have hN : pt14Of (ix3 b t d) < cfg0.N := by rw [hp, show cfg0.N = 16 from N_0]; omega
  have hl : loc14Of (ix3 b t d) = ix3 (⟨(b : ℕ) % 2, Nat.mod_lt _ (by decide)⟩ : Fin 2) (⟨(t : ℕ) % 256, Nat.mod_lt _ (by decide)⟩ : Fin 256) d := by
    funext a
    match a with
    | ⟨0, _⟩ => rfl
    | ⟨1, _⟩ => rfl
    | ⟨2, _⟩ => exact Fin.ext (Nat.mod_eq_of_lt d.isLt)
  unfold G14
  rw [dif_pos hN, ← outsAt0_sweep m c _ hN, hl]
  exact out_at m c hr _ hN ⟨(b : ℕ) % 2, Nat.mod_lt _ (by decide)⟩ b
    (by show (b : ℕ) = 2 * (pt14Of (ix3 b t d) / 8) + (b : ℕ) % 2; rw [hp]; omega) ⟨(t : ℕ) % 256, Nat.mod_lt _ (by decide)⟩ d t
    (by show (t : ℕ) = 256 * (pt14Of (ix3 b t d) % 8) + (t : ℕ) % 256; rw [hp]; omega)

end Cert.KernelIdeal.Result
-- ==== Proof.Entry.lean ====
/-
  The reference before its loop: stretch by stretch what its host operations leave, and at the loop's entry the queries,
  keys and values of the layer laid out by time, a zero memory and a zero counter (`entry_q`, `entry_k`, `entry_v`,
  `entry_dec`, `entry_ctr`, `entry_mem`).
-/
module

public import proofs.«01_k».proof.Proof.Gen.ReferenceIdeal.Run
public import proofs.«01_k».proof.Proof.Scan
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.ReferenceIdeal.Entry

open Cert.ReferenceIdeal Cert.ReferenceIdeal.Gen Cert.ReferenceIdeal.Value Cert.Heb

/-! ## One stretch from any contents -/

section
variable (V : Valuation τ sig (Elt Ideal)) (b : Fin 4) (t : Fin 2048)

/-- The normed rows. -/
theorem norm_at (d : Fin 1024) : after hostOps0 V (Proc.devRef .tc main_v12) (ix3 b t d)
    = nrm (fun k => V (Proc.devRef .tc main_arg0) (ix3 b t k)) (fun k => V (Proc.devRef .tc main_arg1) (ix1 k)) d := by
  simp only [hostOps0]
  after_reads_at
  rfl

/-- The up projection. -/
theorem up_at (j : Fin 2048) : after hostOps0 V (Proc.devRef .tc main_v16) (ix3 b t j)
    = (∑ k : Fin 1024, nrm (fun k => V (Proc.devRef .tc main_arg0) (ix3 b t k)) (fun k => V (Proc.devRef .tc main_arg1) (ix1 k)) k * V (Proc.devRef .tc main_arg2) (ix2 k j))
      + V (Proc.devRef .tc main_arg3) (ix1 j) := by
  simp only [hostOps0]
  after_reads_at
  rfl

omit b t in
/-- The filler of the padding. -/
theorem fill_at : after hostOps0 V (Proc.devRef .tc main_c) (Shape.Idx.first h_S_)
    = 0#32 := by
  simp only [hostOps0]
  after_reads_at

omit t in
/-- The padded projection. -/
theorem pad_at (p : Fin 2051) (j : Fin 2048) (H : Fin 2048 → Fin 2048 → EReal)
    (hH : ∀ t j, V (Proc.devRef .tc main_v16) (ix3 b t j) = H t j) (hc : V (Proc.devRef .tc main_c) (Shape.Idx.first h_S_) = 0#32) : after hostOps0_1 V (Proc.devRef .tc main_v17) (ix3 b p j)
    = (if h : 3 ≤ (p : ℕ) ∧ (p : ℕ) < 2051 then H ⟨p - 3, by omega⟩ j else 0 : EReal) := by
  simp only [hostOps0_1]
  after_reads_at
  rw [hc, show FloatOps.sitofp (F := Ideal) FTy.f32 (0#32) = (((0#32 : BitVec 32).toInt : ℝ) : EReal) from rfl]
  by_cases h : 3 ≤ (p : ℕ)
  · rw [dif_pos h, dif_pos ⟨h, by omega⟩]; exact hH _ j
  · rw [dif_neg h, dif_neg (fun e => h e.1)]; simp

/-- The convolution with its bias. -/
theorem conv_at (j : Fin 2048) (P : Fin 2051 → Fin 2048 → EReal) (w : Fin 2048 → Fin 4 → EReal)
    (z : Fin 2048 → EReal) (hP : ∀ p j, V (Proc.devRef .tc main_v17) (ix3 b p j) = P p j) (hw : ∀ j n, V (Proc.devRef .tc main_arg8) (ix2 j n) = w j n)
    (hz : ∀ j, V (Proc.devRef .tc main_arg9) (ix1 j) = z j) : after hostOps0_2 V (Proc.devRef .tc main_v49) (ix3 b t j)
    = P ⟨t, by omega⟩ j * w j 0 + P ⟨1 + t, by omega⟩ j * w j 1 + P ⟨2 + t, by omega⟩ j * w j 2 + P ⟨3 + t, by omega⟩ j * w j 3 + z j := by
  simp only [hostOps0_2]
  after_reads_at
  simp only [hP, hw, hz]

/-- The convolution's activation. -/
theorem silu1_at (j : Fin 2048) : after hostOps0_3 V (Proc.devRef .tc main_v50) (ix3 b t j)
    = silu (V (Proc.devRef .tc main_v49) (ix3 b t j)) := by
  simp only [hostOps0_3]
  after_reads_at
  rfl

/-- A gate's activation. -/
theorem silu2_at (j : Fin 2048) : after hostOps0_5 V (Proc.devRef .tc main_v55) (ix3 b t j)
    = silu (V (Proc.devRef .tc main_v54) (ix3 b t j)) := by
  simp only [hostOps0_5]
  after_reads_at
  rfl

/-- The gate projection. -/
theorem gate_at (j : Fin 2048) (N : Fin 1024 → EReal) (w : Fin 1024 → Fin 2048 → EReal) (z : Fin 2048 → EReal)
    (hN : ∀ k, V (Proc.devRef .tc main_v12) (ix3 b t k) = N k) (hw : ∀ k j, V (Proc.devRef .tc main_arg4) (ix2 k j) = w k j)
    (hz : ∀ j, V (Proc.devRef .tc main_arg5) (ix1 j) = z j) : after hostOps0_4 V (Proc.devRef .tc main_v54) (ix3 b t j)
    = (∑ k : Fin 1024, N k * w k j) + z j := by
  simp only [hostOps0_4]
  after_reads_at
  simp only [hN, hw, hz]

/-- The queries, by time. -/
theorem q_at (e : Fin 1024) (A G : Fin 2048 → EReal) (dw : Fin 2048 → Fin 1024 → EReal) (db : Fin 1024 → EReal)
    (w : Fin 1024 → Fin 1024 → EReal) (hA : ∀ j, V (Proc.devRef .tc main_v50) (ix3 b t j) = A j) (hG : ∀ j, V (Proc.devRef .tc main_v55) (ix3 b t j) = G j)
    (hd : ∀ j d, V (Proc.devRef .tc main_arg6) (ix2 j d) = dw j d) (hb : ∀ d, V (Proc.devRef .tc main_arg7) (ix1 d) = db d)
    (hw : ∀ d e, V (Proc.devRef .tc main_arg10) (ix2 d e) = w d e) : after hostOps0_6 V (Proc.devRef .tc main_v69_0) (ix3 t b e)
    = ∑ d : Fin 1024, ((∑ j : Fin 2048, A j * G j * dw j d) + db d) * w d e := by
  simp only [hostOps0_6]
  after_reads_simp
  simp only [id]
  clean_types
  pointwise
  simp only [hA, hG, hd, hb, hw]

/-- The keys, by time. -/
theorem k_at (e : Fin 1024) (A G : Fin 2048 → EReal) (dw : Fin 2048 → Fin 1024 → EReal) (db : Fin 1024 → EReal)
    (w : Fin 1024 → Fin 1024 → EReal) (hA : ∀ j, V (Proc.devRef .tc main_v50) (ix3 b t j) = A j) (hG : ∀ j, V (Proc.devRef .tc main_v55) (ix3 b t j) = G j)
    (hd : ∀ j d, V (Proc.devRef .tc main_arg6) (ix2 j d) = dw j d) (hb : ∀ d, V (Proc.devRef .tc main_arg7) (ix1 d) = db d)
    (hw : ∀ d e, V (Proc.devRef .tc main_arg11) (ix2 d e) = w d e) : after hostOps0_6 V (Proc.devRef .tc main_v69_1) (ix3 t b e)
    = ∑ d : Fin 1024, ((∑ j : Fin 2048, A j * G j * dw j d) + db d) * w d e := by
  simp only [hostOps0_6]
  after_reads_simp
  simp only [id]
  clean_types
  pointwise
  simp only [hA, hG, hd, hb, hw]

/-- The values, by time. -/
theorem v_at (e : Fin 1024) (A G : Fin 2048 → EReal) (dw : Fin 2048 → Fin 1024 → EReal) (db : Fin 1024 → EReal)
    (w : Fin 1024 → Fin 1024 → EReal) (hA : ∀ j, V (Proc.devRef .tc main_v50) (ix3 b t j) = A j) (hG : ∀ j, V (Proc.devRef .tc main_v55) (ix3 b t j) = G j)
    (hd : ∀ j d, V (Proc.devRef .tc main_arg6) (ix2 j d) = dw j d) (hb : ∀ d, V (Proc.devRef .tc main_arg7) (ix1 d) = db d)
    (hw : ∀ d e, V (Proc.devRef .tc main_arg12) (ix2 d e) = w d e) : after hostOps0_6 V (Proc.devRef .tc main_v69_2) (ix3 t b e)
    = ∑ d : Fin 1024, ((∑ j : Fin 2048, A j * G j * dw j d) + db d) * w d e := by
  simp only [hostOps0_6]
  after_reads_simp
  simp only [id]
  clean_types
  pointwise
  simp only [hA, hG, hd, hb, hw]

omit b t in
/-- The decay. -/
theorem dec_at : after hostOps0_6 V (Proc.devRef .tc main_v69_3) ix0
    = V (Proc.devRef .tc main_arg14) ix0 := by
  simp only [hostOps0_6]
  after_reads_simp
  rfl

omit b t in
/-- The counter. -/
theorem ctr_at : after hostOps0_6 V (Proc.devRef .tc main_v69_4) = fun _ => 0#32 := by
  simp only [hostOps0_6]
  after_reads_simp
  rfl

omit t in
/-- The memory. -/
theorem mem_at (d e : Fin 1024) : after hostOps0_6 V (Proc.devRef .tc main_v69_5) (ix3 b d e)
    = (0 : EReal) := by
  simp only [hostOps0_6]
  after_reads_simp
  simp only [id]
  clean_types
  pointwise

end

/-! ## The loop's entry -/

variable (m : (ℓ : Loc nD τ sig) → Buf (Elt Ideal) ℓ) (c : Dev nD)

/-- The arguments' entries, read off device `c`'s memory. -/
def argsOf : Args :=
  Args.of (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (m (c.tc.loc main_arg8)) (m (c.tc.loc main_arg9)) (m (c.tc.loc main_arg10)) (m (c.tc.loc main_arg11))
    (m (c.tc.loc main_arg12)) (m (c.tc.loc main_arg13)) (m (c.tc.loc main_arg14))

/-- The buffers after 1 of the seven stretches. -/
def E1 : Valuation τ sig (Elt Ideal) := after hostOps0 (launchContents m c)

/-- The buffers after 2 of the seven stretches. -/
def E2 : Valuation τ sig (Elt Ideal) := after hostOps0_1 (E1 m c)

/-- The buffers after 3 of the seven stretches. -/
def E3 : Valuation τ sig (Elt Ideal) := after hostOps0_2 (E2 m c)

/-- The buffers after 4 of the seven stretches. -/
def E4 : Valuation τ sig (Elt Ideal) := after hostOps0_3 (E3 m c)

/-- The buffers after 5 of the seven stretches. -/
def E5 : Valuation τ sig (Elt Ideal) := after hostOps0_4 (E4 m c)

/-- The buffers after 6 of the seven stretches. -/
def E6 : Valuation τ sig (Elt Ideal) := after hostOps0_5 (E5 m c)

/-- The buffers at the loop's entry. -/
theorem entry_eq : entryContents preI m c = after hostOps0_6 (E6 m c) := rfl

theorem keep1 {r : Ref sig .tc} (h : r ∉ hostOps0_W) : E1 m c (Proc.devRef .tc r) = launchContents m c (Proc.devRef .tc r) :=
  after_of_writes_sub hostOps0 _ hostOps0_writes h

theorem keep2 {r : Ref sig .tc} (h : r ∉ hostOps0_1_W) : E2 m c (Proc.devRef .tc r) = E1 m c (Proc.devRef .tc r) :=
  after_of_writes_sub hostOps0_1 _ hostOps0_1_writes h

theorem keep3 {r : Ref sig .tc} (h : r ∉ hostOps0_2_W) : E3 m c (Proc.devRef .tc r) = E2 m c (Proc.devRef .tc r) :=
  after_of_writes_sub hostOps0_2 _ hostOps0_2_writes h

theorem keep4 {r : Ref sig .tc} (h : r ∉ hostOps0_3_W) : E4 m c (Proc.devRef .tc r) = E3 m c (Proc.devRef .tc r) :=
  after_of_writes_sub hostOps0_3 _ hostOps0_3_writes h

theorem keep5 {r : Ref sig .tc} (h : r ∉ hostOps0_4_W) : E5 m c (Proc.devRef .tc r) = E4 m c (Proc.devRef .tc r) :=
  after_of_writes_sub hostOps0_4 _ hostOps0_4_writes h

theorem keep6 {r : Ref sig .tc} (h : r ∉ hostOps0_5_W) : E6 m c (Proc.devRef .tc r) = E5 m c (Proc.devRef .tc r) :=
  after_of_writes_sub hostOps0_5 _ hostOps0_5_writes h

/-- A buffer that none of the first two stretches writes. -/
theorem kept2 {r : Ref sig .tc} (h : r ∉ hostOps0_W ++ hostOps0_1_W) : E2 m c (Proc.devRef .tc r) = m (c.tc.loc r) := by
  rw [List.mem_append, not_or] at h
  exact (keep2 m c h.2).trans (keep1 m c h.1)

/-- A buffer that none of the first four stretches writes. -/
theorem kept4 {r : Ref sig .tc} (h : r ∉ (hostOps0_W ++ hostOps0_1_W) ++ (hostOps0_2_W ++ hostOps0_3_W)) :
    E4 m c (Proc.devRef .tc r) = m (c.tc.loc r) := by
  simp only [List.mem_append (s := hostOps0_W ++ hostOps0_1_W), List.mem_append (s := hostOps0_2_W), not_or] at h
  exact (keep4 m c h.2.2).trans ((keep3 m c h.2.1).trans (kept2 m c h.1))

/-- A buffer that none of the first six stretches writes. -/
theorem kept6 {r : Ref sig .tc} (h : r ∉ (hostOps0_W ++ hostOps0_1_W) ++ (hostOps0_2_W ++ hostOps0_3_W))
    (h' : r ∉ hostOps0_4_W ++ hostOps0_5_W) : E6 m c (Proc.devRef .tc r) = m (c.tc.loc r) := by
  rw [List.mem_append, not_or] at h'
  exact (keep6 m c h'.2).trans ((keep5 m c h'.1).trans (kept4 m c h))

variable (b : Fin 4) (t : Fin 2048)

theorem e1_norm (d : Fin 1024) : E1 m c (Proc.devRef .tc main_v12) (ix3 b t d) = nrm ((argsOf m c).x b t) (argsOf m c).nw d :=
  norm_at (launchContents m c) b t d

theorem e1_up (j : Fin 2048) : E1 m c (Proc.devRef .tc main_v16) (ix3 b t j) = (argsOf m c).hT b t j :=
  up_at (launchContents m c) b t j

theorem e2_pad (p : Fin 2051) (j : Fin 2048) : E2 m c (Proc.devRef .tc main_v17) (ix3 b p j) = (argsOf m c).hP b p j :=
  pad_at (E1 m c) b p j _ (e1_up m c b) (fill_at _)

theorem e3_conv (j : Fin 2048) : E3 m c (Proc.devRef .tc main_v49) (ix3 b t j) = (argsOf m c).cT b t j := by
  refine (conv_at (E2 m c) b t j _ (argsOf m c).cw (argsOf m c).cb (e2_pad m c b)
    (fun j n => congrFun (kept2 m c (r := main_arg8) (by decide)) (ix2 j n))
    (fun j => congrFun (kept2 m c (r := main_arg9) (by decide)) (ix1 j))).trans ?_
  simp only [Args.cT, Nat.add_comm 1, Nat.add_comm 2, Nat.add_comm 3]

theorem e4_act (j : Fin 2048) : E4 m c (Proc.devRef .tc main_v50) (ix3 b t j) = silu ((argsOf m c).cT b t j) :=
  (silu1_at (E3 m c) b t j).trans (congrArg silu (e3_conv m c b t j))

theorem e4_norm (d : Fin 1024) : E4 m c (Proc.devRef .tc main_v12) (ix3 b t d) = nrm ((argsOf m c).x b t) (argsOf m c).nw d := by
  rw [keep4 m c (r := main_v12) (by decide), keep3 m c (r := main_v12) (by decide), keep2 m c (r := main_v12) (by decide)]
  exact e1_norm m c b t d

theorem e5_gate (j : Fin 2048) : E5 m c (Proc.devRef .tc main_v54) (ix3 b t j) = (argsOf m c).gT b t j :=
  gate_at (E4 m c) b t j _ (argsOf m c).gw (argsOf m c).gb (e4_norm m c b t)
    (fun k j => congrFun (kept4 m c (r := main_arg4) (by decide)) (ix2 k j))
    (fun j => congrFun (kept4 m c (r := main_arg5) (by decide)) (ix1 j))

theorem e6_act (j : Fin 2048) : E6 m c (Proc.devRef .tc main_v50) (ix3 b t j) = silu ((argsOf m c).cT b t j) := by
  rw [keep6 m c (r := main_v50) (by decide), keep5 m c (r := main_v50) (by decide)]
  exact e4_act m c b t j

theorem e6_gate (j : Fin 2048) : E6 m c (Proc.devRef .tc main_v55) (ix3 b t j) = silu ((argsOf m c).gT b t j) :=
  (silu2_at (E5 m c) b t j).trans (congrArg silu (e5_gate m c b t j))

/-- The loop starts with the layer's queries. -/
theorem entry_q (e : Fin 1024) :
    entryContents preI m c (Proc.devRef .tc main_v69_0) (ix3 t b e) = (argsOf m c).qT b t e := by
  rw [entry_eq]
  exact q_at (E6 m c) b t e _ _ (argsOf m c).dw (argsOf m c).db (argsOf m c).wq (e6_act m c b t) (e6_gate m c b t)
    (fun j d => congrFun (kept6 m c (r := main_arg6) (by decide) (by decide)) (ix2 j d))
    (fun d => congrFun (kept6 m c (r := main_arg7) (by decide) (by decide)) (ix1 d))
    (fun d e => congrFun (kept6 m c (r := main_arg10) (by decide) (by decide)) (ix2 d e))

/-- The loop starts with the layer's keys. -/
theorem entry_k (e : Fin 1024) :
    entryContents preI m c (Proc.devRef .tc main_v69_1) (ix3 t b e) = (argsOf m c).kT b t e := by
  rw [entry_eq]
  exact k_at (E6 m c) b t e _ _ (argsOf m c).dw (argsOf m c).db (argsOf m c).wk (e6_act m c b t) (e6_gate m c b t)
    (fun j d => congrFun (kept6 m c (r := main_arg6) (by decide) (by decide)) (ix2 j d))
    (fun d => congrFun (kept6 m c (r := main_arg7) (by decide) (by decide)) (ix1 d))
    (fun d e => congrFun (kept6 m c (r := main_arg11) (by decide) (by decide)) (ix2 d e))

/-- The loop starts with the layer's values. -/
theorem entry_v (e : Fin 1024) :
    entryContents preI m c (Proc.devRef .tc main_v69_2) (ix3 t b e) = (argsOf m c).vT b t e := by
  rw [entry_eq]
  exact v_at (E6 m c) b t e _ _ (argsOf m c).dw (argsOf m c).db (argsOf m c).wv (e6_act m c b t) (e6_gate m c b t)
    (fun j d => congrFun (kept6 m c (r := main_arg6) (by decide) (by decide)) (ix2 j d))
    (fun d => congrFun (kept6 m c (r := main_arg7) (by decide) (by decide)) (ix1 d))
    (fun d e => congrFun (kept6 m c (r := main_arg12) (by decide) (by decide)) (ix2 d e))

omit b t in
/-- The loop starts with the decay. -/
theorem entry_dec : entryContents preI m c (Proc.devRef .tc main_v69_3) ix0 = (argsOf m c).dec := by
  rw [entry_eq]
  refine (dec_at (E6 m c)).trans ?_
  rw [kept6 m c (r := main_arg14) (by decide) (by decide)]
  rfl

omit b t in
/-- The loop starts with a zero counter. -/
theorem entry_ctr : entryContents preI m c (Proc.devRef .tc main_v69_4) = fun _ => 0#32 := ctr_at (E6 m c)

omit t in
/-- The loop starts with a zero memory. -/
theorem entry_mem (d e : Fin 1024) : entryContents preI m c (Proc.devRef .tc main_v69_5) (ix3 b d e) = (0 : EReal) :=
  mem_at (E6 m c) b d e

end Cert.ReferenceIdeal.Entry
-- ==== Proof.Loop.lean ====
/-
  The reference's loop: after `k` trips the counter is `k`, the memory is the recurrence's after `k` steps, and the first
  `k` rows of the reads are the recurrence's (`inv`). `result_at` reads the reference's result off the whole loop.
-/
module

public import proofs.«01_k».proof.Proof.Entry

@[expose] public section

set_option maxRecDepth 16384

noncomputable section

open Idealize.ShloMosaic Idealize.ShloMosaic.TcCoe Idealize.SL.Sem Idealize.ShloMosaic.StableHlo

namespace Cert.ReferenceIdeal.Loop

open Cert.ReferenceIdeal Cert.ReferenceIdeal.Gen Cert.ReferenceIdeal.Value Cert.ReferenceIdeal.Entry Cert.Heb

section
variable (V : Valuation τ sig (Elt Ideal)) (n : Fin 2048)
  (hn : V (Proc.devRef .tc main_v69_4) = fun _ => BitVec.ofNat 32 n)
include hn

/-- Where a trip's slices start: at the counter, whole in the other axes. -/
theorem start_at (h) (a : Fin 3) :
    Host.clampedStart { rank := 3, size := ![2048, 4, 1024] } S1x4x1024 h
      (fun k => BitVec.toInt ((![V (Proc.devRef .tc main_v69_4), constantI S_ 32 0#32, constantI S_ 32 0#32] :
        Fin 3 → (⟨S_, .i32⟩ : BufTy).Contents (Elt Ideal)) k (Shape.Idx.first h_S_))) a = (![(n : ℕ), 0, 0] : Fin 3 → ℕ) a := by
  refine Host.clampedStart_of_le h _ a _ ?_ ?_
  · match a with
    | 0 =>
      show BitVec.toInt (V (Proc.devRef .tc main_v69_4) _) = _
      rw [hn, BitVec.toInt_eq_toNat_of_lt (by rw [BitVec.toNat_ofNat]; omega), BitVec.toNat_ofNat, Nat.mod_eq_of_lt (by omega)]
      rfl
    | 1 => rfl
    | 2 => rfl
  · match a with
    | 0 => exact n.isLt
    | 1 => exact le_refl 4
    | 2 => exact le_refl 1024

/-- One step of the memory. -/
theorem step_mem (b : Fin 4) (d e : Fin 1024) (M : Fin 1024 → Fin 1024 → EReal) (k v : Fin 1024 → EReal) (δ : EReal)
    (hM : ∀ d e, V (Proc.devRef .tc main_v69_5) (ix3 b d e) = M d e)
    (hk : ∀ d, V (Proc.devRef .tc main_v69_1) (ix3 n b d) = k d) (hv : ∀ e, V (Proc.devRef .tc main_v69_2) (ix3 n b e) = v e)
    (hd : V (Proc.devRef .tc main_v69_3) ix0 = δ) :
    res_main_while0b_v83 V (ix3 b d e) = δ * M d e + k d * v e := by
  simp only [res_main_while0b_v83]
  clean_types
  pointwise
  simp only [start_at V n hn, Matrix.cons_val_zero, Matrix.cons_val_one, Matrix.cons_val, Nat.zero_add, Fin.eta, hM, hk, hv, hd]

/-- One step of the reads: row `n` is written, every other row stays. -/
theorem step_rd (t : Fin 2048) (b : Fin 4) (e : Fin 1024) (q : Fin 1024 → EReal) (M : Fin 1024 → Fin 1024 → EReal)
    (hq : ∀ d, V (Proc.devRef .tc main_v69_0) (ix3 n b d) = q d)
    (hM : ∀ d e, res_main_while0b_v83 V (ix3 b d e) = M d e) :
    step_main_v69_6 V (ix3 t b e) = if t = n then ∑ d, q d * M d e else V (Proc.devRef .tc main_v69_6) (ix3 t b e) := by
  simp only [step_main_v69_6, id]
  clean_types
  pointwise
  simp only [start_at V n hn, Matrix.cons_val_zero, Matrix.cons_val_one, Matrix.cons_val, Nat.zero_add, Nat.sub_zero, Fin.eta, hM, hq]
  by_cases h : t = n
  · subst h
    simp
  · have h' : ¬ (t : ℕ) = n := fun e => h (Fin.ext e)
    rw [if_neg h]
    simp
    omega

end

/-- The result after the loop: `x` plus the projected reads. -/
theorem out_at (V : Valuation τ sig (Elt Ideal)) (b : Fin 4) (t : Fin 2048) (d : Fin 1024) (x : EReal) (y : Fin 1024 → EReal)
    (w : Fin 1024 → EReal) (hx : V (Proc.devRef .tc main_arg0) (ix3 b t d) = x)
    (hy : ∀ e, V (Proc.devRef .tc main_v69_6) (ix3 t b e) = y e) (hw : ∀ e, V (Proc.devRef .tc main_arg13) (ix2 e d) = w e) :
    out_main_v72 V (ix3 b t d) = x + ∑ e, y e * w e := by
  simp only [out_main_v72]
  clean_types
  pointwise
  rw [hx]
  refine congrArg (x + ·) (Finset.sum_congr rfl fun e _ => ?_)
  rw [hy, hw]

variable (m : (ℓ : Loc nD τ sig) → Buf (Elt Ideal) ℓ) (c : Dev nD)

/-- The loop's buffers after `k` trips. -/
def trips (k : ℕ) : Valuation τ sig (Elt Ideal) := STEP^[k] (entryContents preI m c)

theorem trips_succ (k : ℕ) : trips m c (k + 1) = STEP (trips m c k) := Function.iterate_succ_apply' STEP k _

theorem trips_q (k : ℕ) : trips m c k (Proc.devRef .tc main_v69_0) = entryContents preI m c (Proc.devRef .tc main_v69_0) := by
  induction k with
  | zero => rfl
  | succ k ih => rw [trips_succ, STEP_main_v69_0, ih]

theorem trips_k (k : ℕ) : trips m c k (Proc.devRef .tc main_v69_1) = entryContents preI m c (Proc.devRef .tc main_v69_1) := by
  induction k with
  | zero => rfl
  | succ k ih => rw [trips_succ, STEP_main_v69_1, ih]

theorem trips_v (k : ℕ) : trips m c k (Proc.devRef .tc main_v69_2) = entryContents preI m c (Proc.devRef .tc main_v69_2) := by
  induction k with
  | zero => rfl
  | succ k ih => rw [trips_succ, STEP_main_v69_2, ih]

theorem trips_dec (k : ℕ) : trips m c k (Proc.devRef .tc main_v69_3) = entryContents preI m c (Proc.devRef .tc main_v69_3) := by
  induction k with
  | zero => rfl
  | succ k ih => rw [trips_succ, STEP_main_v69_3, ih]

/-- The counter counts. -/
theorem trips_ctr (k : ℕ) : trips m c k (Proc.devRef .tc main_v69_4) = fun _ => BitVec.ofNat 32 k := by
  induction k with
  | zero => exact entry_ctr m c
  | succ k ih =>
    rw [trips_succ, STEP_main_v69_4]
    funext i
    simp only [step_main_v69_4, id]
    rw [ih, BitVec.ofNat_add]
    rfl

/-- A read, as a sum in the extended reals. -/
theorem rd_coe (z : Seq) (t : ℕ) (e : Fin 1024) :
    ∑ d, ((z.q t d : ℝ) : EReal) * ((z.mem (t + 1) d e : ℝ) : EReal) = ((z.rd t e : ℝ) : EReal) := by
  rw [Seq.rd, coe_sum]
  exact Finset.sum_congr rfl fun d _ => (EReal.coe_mul _ _).symm

section
variable (hr : (argsOf m c).Real)
include hr

/-- The memory one trip on, from the memory before it. -/
theorem mem_succ (n : Fin 2048) (b : Fin 4)
    (ih : ∀ d e, trips m c n (Proc.devRef .tc main_v69_5) (ix3 b d e) = ((((argsOf m c).seq b).mem n d e : ℝ) : EReal)) (d e : Fin 1024) :
    res_main_while0b_v83 (trips m c n) (ix3 b d e) = ((((argsOf m c).seq b).mem (n + 1) d e : ℝ) : EReal) := by
  refine (step_mem (trips m c n) n (trips_ctr m c n) b d e _ (fun d => ((((argsOf m c).seq b).k n d : ℝ) : EReal))
    (fun e => ((((argsOf m c).seq b).v n e : ℝ) : EReal)) ((((argsOf m c).seq b).δ : ℝ) : EReal) ih ?_ ?_ ?_).trans ?_
  · intro d; rw [trips_k, entry_k, hr.seq_k]
  · intro e; rw [trips_v, entry_v, hr.seq_v]
  · rw [trips_dec, entry_dec, hr.seq_dec b]
  · show _ = (((((argsOf m c).seq b).δ * ((argsOf m c).seq b).mem n d e + ((argsOf m c).seq b).k n d * ((argsOf m c).seq b).v n e : ℝ)) : EReal)
    rw [EReal.coe_add, EReal.coe_mul, EReal.coe_mul]

/-- The memory after `k` trips is the recurrence's after `k` steps. -/
theorem mem_eq (b : Fin 4) (k : ℕ) (hk : k ≤ 2048) (d e : Fin 1024) :
    trips m c k (Proc.devRef .tc main_v69_5) (ix3 b d e) = ((((argsOf m c).seq b).mem k d e : ℝ) : EReal) := by
  induction k generalizing d e with
  | zero => exact (entry_mem m c b d e).trans EReal.coe_zero.symm
  | succ k ih =>
    rw [trips_succ, STEP_main_v69_5]
    exact mem_succ m c hr ⟨k, hk⟩ b (ih (Nat.le_of_succ_le hk)) d e

/-- After `k` trips the first `k` rows of the reads are the recurrence's. -/
theorem rd_eq (b : Fin 4) (k : ℕ) (hk : k ≤ 2048) (t : Fin 2048) (ht : (t : ℕ) < k) (e : Fin 1024) :
    trips m c k (Proc.devRef .tc main_v69_6) (ix3 t b e) = ((((argsOf m c).seq b).rd t e : ℝ) : EReal) := by
  induction k with
  | zero => exact absurd ht (Nat.not_lt_zero _)
  | succ k ih =>
    rw [trips_succ, STEP_main_v69_6]
    refine (step_rd (trips m c k) ⟨k, hk⟩ (trips_ctr m c k) t b e (fun d => ((((argsOf m c).seq b).q k d : ℝ) : EReal)) _ ?_
      (mem_succ m c hr ⟨k, hk⟩ b (mem_eq m c hr b k (Nat.le_of_succ_le hk)))).trans ?_
    · intro d; rw [trips_q, entry_q, hr.seq_q]
    · by_cases h : t = ⟨k, hk⟩
      · subst h
        exact (if_pos rfl).trans (rd_coe _ _ _)
      · rw [if_neg h]
        have h' : (t : ℕ) ≠ k := fun e => h (Fin.ext e)
        exact ih (Nat.le_of_succ_le hk) (by omega)

/-- The reference's result. -/
theorem result_at (b : Fin 4) (t : Fin 2048) (d : Fin 1024) :
    out_main_v72 (STEP^[2048] (entryContents preI m c)) (ix3 b t d) = (argsOf m c).out b t d :=
  out_at _ b t d _ _ _ (congrFun (iter_main_arg0 m c 2048) _) (rd_eq m c hr b 2048 (le_refl _) t t.isLt)
    (fun e => congrFun (iter_main_arg13 m c 2048) _)

end

end Cert.ReferenceIdeal.Loop
-- ==== Proof.Pre.lean ====
/-
  The precondition read back: where it holds, every argument but `x` and the output weights has real entries.
-/
module

public import proofs.«01_k».proof.Pre_finite
public import proofs.«01_k».proof.Proof.Finite
public import Idealize.ShloMosaic.Lib.ReduceAll

@[expose] public section

noncomputable section

open Idealize.ShloMosaic

namespace Cert.Pre_finite

/-- The shape relations the precondition states. -/
theorem facts : Facts := by
  constructor <;> decide

end Cert.Pre_finite

namespace Cert.Heb

/-- A number whose absolute value is below infinity is real. -/
theorem IsR.of_cmp (x : EReal) (h : Ideal.cmp .olt (max x (-x)) (Ideal.ofBits .f32 0x7F800000#32) = 1#1) : IsR x := by
  have hi : Ideal.ofBits .f32 0x7F800000#32 = ⊤ := by simp [Ideal.ofBits, Ideal.ieee]
  rw [hi] at h
  have h : max x (-x) < ⊤ := by
    by_contra hn
    simp [Ideal.cmp, hn] at h
  refine IsR.of_ne (fun e => ?_) (fun e => ?_) <;> subst e <;> simp at h

section
variable {s : Shape} (x : Vec Ideal s .f32)

/-- The precondition's test of one array. -/
theorem real_of_all {t u : Shape} {axes : List (Fin s.rank)} [Subsingleton t.Idx] (dims : Fin Cert.Pre_finite.S_.rank → Fin s.rank)
    (hb : Cert.Pre_finite.S_.BroadcastsInDim s dims) (init : u.Idx → BitVec 1) (h : s.ReducesTo axes t) (hu : 0 < u.numel) (j : t.Idx)
    (e : Host.reduce IntOp.andi (cmpf .olt (Host.absf x)
      (broadcastInDim s dims hb (constant (F := Ideal) Cert.Pre_finite.S_ .f32 0x7F800000#32))) init h hu j = 1#1) (i : s.Idx) : IsR (x i) :=
  IsR.of_cmp _ (Host.reduce_andi_all _ _ _ _ j e i)

end

open Cert.Pre_finite in
/-- What the precondition says of the arguments. -/
theorem real_of_pre (x : Vec Ideal S4x2048x1024 .f32) (nw : Vec Ideal S1024 .f32) (uw : Vec Ideal S1024x2048 .f32)
    (ub : Vec Ideal S2048 .f32) (gw : Vec Ideal S1024x2048 .f32) (gb : Vec Ideal S2048 .f32) (dw : Vec Ideal S2048x1024 .f32)
    (db : Vec Ideal S1024 .f32) (cw : Vec Ideal S2048x4 .f32) (cb : Vec Ideal S2048 .f32)
    (wq wk wv wo : Vec Ideal S1024x1024 .f32) (dec : Vec Ideal S_ .f32)
    (h : letI := Cert.Pre_finite.facts
      Cert.Pre_finite.fn (F := Ideal) x nw uw ub gw gb dw db cw cb wq wk wv wo dec = fun _ => 1#1) :
    (Args.of x nw uw ub gw gb dw db cw cb wq wk wv wo dec).Real := by
  letI := Cert.Pre_finite.facts
  haveI : Subsingleton S_.Idx := ⟨fun a b => funext fun k => k.elim0⟩
  have h := congrFun h ix0
  dsimp only [fn, fn_part1, fn_part2, fn_part3] at h
  obtain ⟨h, hv⟩ := IntOp.andi_eq_one.1 h
  obtain ⟨h, hk⟩ := IntOp.andi_eq_one.1 h
  obtain ⟨h, hq⟩ := IntOp.andi_eq_one.1 h
  obtain ⟨h, hcb⟩ := IntOp.andi_eq_one.1 h
  obtain ⟨h, hcw⟩ := IntOp.andi_eq_one.1 h
  obtain ⟨h, hdb⟩ := IntOp.andi_eq_one.1 h
  obtain ⟨h, hdw⟩ := IntOp.andi_eq_one.1 h
  obtain ⟨h, hgb⟩ := IntOp.andi_eq_one.1 h
  obtain ⟨h, hgw⟩ := IntOp.andi_eq_one.1 h
  obtain ⟨h, hub⟩ := IntOp.andi_eq_one.1 h
  obtain ⟨h, huw⟩ := IntOp.andi_eq_one.1 h
  obtain ⟨h, hnw⟩ := IntOp.andi_eq_one.1 h
  exact {
    nw := fun _ => real_of_all nw _ _ _ _ _ _ hnw _
    uw := fun _ _ => real_of_all uw _ _ _ _ _ _ huw _
    ub := fun _ => real_of_all ub _ _ _ _ _ _ hub _
    gw := fun _ _ => real_of_all gw _ _ _ _ _ _ hgw _
    gb := fun _ => real_of_all gb _ _ _ _ _ _ hgb _
    dw := fun _ _ => real_of_all dw _ _ _ _ _ _ hdw _
    db := fun _ => real_of_all db _ _ _ _ _ _ hdb _
    cw := fun _ _ => real_of_all cw _ _ _ _ _ _ hcw _
    cb := fun _ => real_of_all cb _ _ _ _ _ _ hcb _
    wq := fun _ _ => real_of_all wq _ _ _ _ _ _ hq _
    wk := fun _ _ => real_of_all wk _ _ _ _ _ _ hk _
    wv := fun _ _ => real_of_all wv _ _ _ _ _ _ hv _
    dec := IsR.of_cmp _ h }

end Cert.Heb
-- ==== Proof.lean ====
/-
  The proof of the claim. Both programs' results are the layer's function of the arguments (`Args.out`): the kernel's array
  entry by entry from its grid points (`Result.result_at`), the reference's from its loop (`Loop.result_at`).
-/
module

public import proofs.«01_k».proof.Defs
public import proofs.«01_k».proof.Proof.Gen.Kernel.Frame
public import proofs.«01_k».proof.Proof.Result
public import proofs.«01_k».proof.Proof.Loop
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem Cert.Heb

/-- The reference ends with its arguments and counters as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem quiescent_ReferenceIdeal_pre_finite : quiescent_ReferenceIdeal_pre_finite (hPre_finite := Cert.Pre_finite.facts) :=
  fun m ρ _ => quiescent_ReferenceIdeal m ρ trivial

/-- On the same arguments, where the precondition holds, the two programs' results are equal. -/
theorem algebraic_KernelIdeal_ReferenceIdeal_pre_finite :
    algebraic_KernelIdeal_ReferenceIdeal_pre_finite (hPre_finite := Cert.Pre_finite.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hr : (Cert.KernelIdeal.Win.argsOf m c).Real := real_of_pre _ _ _ _ _ _ _ _ _ _ _ _ _ _ _ (hpre c)
  have ha : Cert.ReferenceIdeal.Entry.argsOf m' c = Cert.KernelIdeal.Win.argsOf m c := by
    obtain ⟨h0, h1, h2, h3, h4, h5, h6, h7, h8, h9, h10, h11, h12, h13, h14⟩ := hagree c
    unfold Cert.ReferenceIdeal.Entry.argsOf Cert.KernelIdeal.Win.argsOf
    rw [h0, h1, h2, h3, h4, h5, h6, h7, h8, h9, h10, h11, h12, h13, h14]
  have hr' : (Cert.ReferenceIdeal.Entry.argsOf m' c).Real := ha ▸ hr
  funext i
  obtain ⟨b, t, d, rfl⟩ : ∃ (b : Fin 4) (t : Fin 2048) (d : Fin 1024), i = ix3 b t d :=
    ⟨i 0, i 1, i 2, by funext k; match k with | ⟨0, _⟩ => rfl | ⟨1, _⟩ => rfl | ⟨2, _⟩ => rfl⟩
  exact (Cert.ReferenceIdeal.Loop.result_at m' c hr' b t d).trans
    ((congrArg (fun a : Args => a.out b t d) ha).trans (Cert.KernelIdeal.Result.result_at m c hr b t d).symm)

theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite, (trivial : preserves_Kernel_KernelIdeal),
  algebraic_KernelIdeal_ReferenceIdeal_pre_finite⟩

end Cert.Proof

end
